-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_l" .f32 0x3CA3D70A#32 ((50⁻¹ : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384 : Shape := ⟨1, ![16384]⟩
abbrev S16384x50 : Shape := ⟨2, ![16384, 50]⟩
abbrev S4x64 : Shape := ⟨2, ![4, 64]⟩
abbrev S64x2 : Shape := ⟨2, ![64, 2]⟩
abbrev S64 : Shape := ⟨1, ![64]⟩
abbrev S_ : Shape := ⟨0, ![]⟩

class Facts : Prop where
  bcast_S_S16384x50 : S_.BroadcastsInDim S16384x50 (![] : Fin 0 → Fin S16384x50.rank)
  reducesTo_S16384x50_S_d0_1 : S16384x50.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S16384 .f32) (main_arg1 : FVec F S16384 .f32) (main_arg2 : IVec S16384x50 32) (main_arg3 : FVec F S4x64 .f32) (main_arg4 : FVec F S64x2 .f32) (main_arg5 : FVec F S64 .f32) : IVec S_ 1 :=
  let main_c : IVec S_ 32 := constantI S_ 32 0#32
  let main_v0 : IVec S16384x50 32 := broadcastInDim S16384x50 ![] bcast_S_S16384x50 main_c
  let main_v1 : IVec S16384x50 1 := cmpi .sge main_arg2 main_v0
  let main_c_0 : IVec S_ 32 := constantI S_ 32 4#32
  let main_v2 : IVec S16384x50 32 := broadcastInDim S16384x50 ![] bcast_S_S16384x50 main_c_0
  let main_v3 : IVec S16384x50 1 := cmpi .slt main_arg2 main_v2
  let main_v4 : IVec S16384x50 1 := andi main_v1 main_v3
  let main_c_1 : IVec S_ 1 := constantI S_ 1 1#1
  let main_v5 : IVec S_ 1 := (fun x v => Host.reduce IntOp.andi x v reducesTo_S16384x50_S_d0_1 h_S_) main_v4 main_c_1
  let main_v6 : FVec F S4x64 .f32 := Host.absf main_arg3
  let main_cst : FVec F S_ .f32 := constant S_ .f32 0x7F800000#32
  let main_v7 : FVec F S4x64 .f32 := broadcastInDim S4x64 ![] bcast_S_S4x64 main_cst
  let main_v8 : IVec S4x64 1 := cmpf .olt main_v6 main_v7
  let main_c_2 : IVec S_ 1 := constantI S_ 1 1#1
  let main_v9 : IVec S_ 1 := (fun x v => Host.reduce IntOp.andi x v reducesTo_S4x64_S_d0_1 h_S_) main_v8 main_c_2
  let main_v10 : IVec S_ 1 := andi main_v5 main_v9
  main_v10
-- ==== Kernel.lean ====
abbrev S16384 : Shape := ⟨1, ![16384]⟩
abbrev S16384x50 : Shape := ⟨2, ![16384, 50]⟩
abbrev S4x64 : Shape := ⟨2, ![4, 64]⟩
abbrev S64x2 : Shape := ⟨2, ![64, 2]⟩
abbrev S64 : Shape := ⟨1, ![64]⟩
abbrev S16384x64 : Shape := ⟨2, ![16384, 64]⟩
abbrev S512x50 : Shape := ⟨2, ![512, 50]⟩
abbrev S48 : Shape := ⟨1, ![48]⟩
abbrev S512x64 : Shape := ⟨2, ![512, 64]⟩
abbrev S_ : Shape := ⟨0, ![]⟩
abbrev S16 : Shape := ⟨1, ![16]⟩
abbrev S1x16 : Shape := ⟨2, ![1, 16]⟩

abbrev nBuf : Table → Nat
  | .hbm => 7
  | .local .scVector .vmem => 4
  | _ => 0

abbrev bufTy : (tb : Table) → Fin (nBuf tb) → BufTy
  | .hbm, ⟨0, _⟩ => ⟨S16384, .f32⟩
  | .hbm, ⟨1, _⟩ => ⟨S16384, .f32⟩
  | .hbm, ⟨2, _⟩ => ⟨S16384x50, .i32⟩
  | .hbm, ⟨3, _⟩ => ⟨S4x64, .f32⟩
  | .hbm, ⟨4, _⟩ => ⟨S64x2, .f32⟩
  | .hbm, ⟨5, _⟩ => ⟨S64, .f32⟩
  | .hbm, ⟨6, _⟩ => ⟨S16384x64, .f32⟩
  | .local .scVector .vmem, ⟨0, _⟩ => ⟨S512x50, .i32⟩
  | .local .scVector .vmem, ⟨1, _⟩ => ⟨S4x64, .f32⟩
  | .local .scVector .vmem, ⟨2, _⟩ => ⟨S48, .f32⟩
  | .local .scVector .vmem, ⟨3, _⟩ => ⟨S512x64, .f32⟩
  | _, _ => ⟨S16384, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_arg2_scv : Ref sig .scVector := ⟨.hbm, 2, rfl⟩
abbrev main_arg3_scv : Ref sig .scVector := ⟨.hbm, 3, rfl⟩
abbrev main_v0_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_40_r0 : BitVec 32 := 0#32
  ![v2.toNat, 0]
@[reducible] def k0_t1_loop : Scf.Loop 32 :=
  let c0_i32_37 : BitVec 32 := 0#32
  let c32_i32 : BitVec 32 := 32#32
  let v88 : BitVec 32 := Scalar.addi c0_i32_37 c32_i32
  let c1_i32_38 : BitVec 32 := 1#32
  ⟨c0_i32_37, v88, c1_i32_38⟩

def k0_chk1 (v91 : IVec S16 32) (v95 : IVec S16 32) : Prop :=
  (∀ a x, ((![v91, v95] : Fin 2 → IVec S16 32) a x).toNat < S512x50.size a)
theorem k0_idx1_inb : ∀ (v91 : IVec S16 32) (v95 : IVec S16 32) (k0_hw1 : k0_chk1 v91 v95), ∀ a x, ((![v91, v95] : Fin 2 → IVec S16 32) a x).toNat < S512x50.size a := fun v91 v95 k0_hw1 => k0_hw1

def k0_chk2 (v91 : IVec S16 32) (v105 : IVec S16 32) : Prop :=
  (∀ a x, ((![v91, v105] : Fin 2 → IVec S16 32) a x).toNat < S512x50.size a)
theorem k0_idx2_inb : ∀ (v91 : IVec S16 32) (v105 : IVec S16 32) (k0_hw2 : k0_chk2 v91 v105), ∀ a x, ((![v91, v105] : Fin 2 → IVec S16 32) a x).toNat < S512x50.size a := fun v91 v105 k0_hw2 => k0_hw2

def k0_chk3 (v91 : IVec S16 32) (v115 : IVec S16 32) : Prop :=
  (∀ a x, ((![v91, v115] : Fin 2 → IVec S16 32) a x).toNat < S512x50.size a)
theorem k0_idx3_inb : ∀ (v91 : IVec S16 32) (v115 : IVec S16 32) (k0_hw3 : k0_chk3 v91 v115), ∀ a x, ((![v91, v115] : Fin 2 → IVec S16 32) a x).toNat < S512x50.size a := fun v91 v115 k0_hw3 => k0_hw3

def k0_chk4 (v91 : IVec S16 32) (v125 : IVec S16 32) : Prop :=
  (∀ a x, ((![v91, v125] : Fin 2 → IVec S16 32) a x).toNat < S512x50.size a)
theorem k0_idx4_inb : ∀ (v91 : IVec S16 32) (v125 : IVec S16 32) (k0_hw4 : k0_chk4 v91 v125), ∀ a x, ((![v91, v125] : Fin 2 → IVec S16 32) a x).toNat < S512x50.size a := fun v91 v125 k0_hw4 => k0_hw4

def k0_chk5 (v91 : IVec S16 32) (v135 : IVec S16 32) : Prop :=
  (∀ a x, ((![v91, v135] : Fin 2 → IVec S16 32) a x).toNat < S512x50.size a)
theorem k0_idx5_inb : ∀ (v91 : IVec S16 32) (v135 : IVec S16 32) (k0_hw5 : k0_chk5 v91 v135), ∀ a x, ((![v91, v135] : Fin 2 → IVec S16 32) a x).toNat < S512x50.size a := fun v91 v135 k0_hw5 => k0_hw5

def k0_chk6 (v91 : IVec S16 32) (v145 : IVec S16 32) : Prop :=
  (∀ a x, ((![v91, v145] : Fin 2 → IVec S16 32) a x).toNat < S512x50.size a)
theorem k0_idx6_inb : ∀ (v91 : IVec S16 32) (v145 : IVec S16 32) (k0_hw6 : k0_chk6 v91 v145), ∀ a x, ((![v91, v145] : Fin 2 → IVec S16 32) a x).toNat < S512x50.size a := fun v91 v145 k0_hw6 => k0_hw6

def k0_chk7 (v91 : IVec S16 32) (v155 : IVec S16 32) : Prop :=
  (∀ a x, ((![v91, v155] : Fin 2 → IVec S16 32) a x).toNat < S512x50.size a)
theorem k0_idx7_inb : ∀ (v91 : IVec S16 32) (v155 : IVec S16 32) (k0_hw7 : k0_chk7 v91 v155), ∀ a x, ((![v91, v155] : Fin 2 → IVec S16 32) a x).toNat < S512x50.size a := fun v91 v155 k0_hw7 => k0_hw7

def k0_chk8 (v91 : IVec S16 32) (v165 : IVec S16 32) : Prop :=
  (∀ a x, ((![v91, v165] : Fin 2 → IVec S16 32) a x).toNat < S512x50.size a)
theorem k0_idx8_inb : ∀ (v91 : IVec S16 32) (v165 : IVec S16 32) (k0_hw8 : k0_chk8 v91 v165), ∀ a x, ((![v91, v165] : Fin 2 → IVec S16 32) a x).toNat < S512x50.size a := fun v91 v165 k0_hw8 => k0_hw8

def k0_chk9 (v91 : IVec S16 32) (v175 : IVec S16 32) : Prop :=
  (∀ a x, ((![v91, v175] : Fin 2 → IVec S16 32) a x).toNat < S512x50.size a)
theorem k0_idx9_inb : ∀ (v91 : IVec S16 32) (v175 : IVec S16 32) (k0_hw9 : k0_chk9 v91 v175), ∀ a x, ((![v91, v175] : Fin 2 → IVec S16 32) a x).toNat < S512x50.size a := fun v91 v175 k0_hw9 => k0_hw9

def k0_chk10 (v91 : IVec S16 32) (v185 : IVec S16 32) : Prop :=
  (∀ a x, ((![v91, v185] : Fin 2 → IVec S16 32) a x).toNat < S512x50.size a)
theorem k0_idx10_inb : ∀ (v91 : IVec S16 32) (v185 : IVec S16 32) (k0_hw10 : k0_chk10 v91 v185), ∀ a x, ((![v91, v185] : Fin 2 → IVec S16 32) a x).toNat < S512x50.size a := fun v91 v185 k0_hw10 => k0_hw10

def k0_chk11 (v91 : IVec S16 32) (v195 : IVec S16 32) : Prop :=
  (∀ a x, ((![v91, v195] : Fin 2 → IVec S16 32) a x).toNat < S512x50.size a)
theorem k0_idx11_inb : ∀ (v91 : IVec S16 32) (v195 : IVec S16 32) (k0_hw11 : k0_chk11 v91 v195), ∀ a x, ((![v91, v195] : Fin 2 → IVec S16 32) a x).toNat < S512x50.size a := fun v91 v195 k0_hw11 => k0_hw11

def k0_chk12 (v91 : IVec S16 32) (v205 : IVec S16 32) : Prop :=
  (∀ a x, ((![v91, v205] : Fin 2 → IVec S16 32) a x).toNat < S512x50.size a)
theorem k0_idx12_inb : ∀ (v91 : IVec S16 32) (v205 : IVec S16 32) (k0_hw12 : k0_chk12 v91 v205), ∀ a x, ((![v91, v205] : Fin 2 → IVec S16 32) a x).toNat < S512x50.size a := fun v91 v205 k0_hw12 => k0_hw12

def k0_chk13 (v91 : IVec S16 32) (v215 : IVec S16 32) : Prop :=
  (∀ a x, ((![v91, v215] : Fin 2 → IVec S16 32) a x).toNat < S512x50.size a)
theorem k0_idx13_inb : ∀ (v91 : IVec S16 32) (v215 : IVec S16 32) (k0_hw13 : k0_chk13 v91 v215), ∀ a x, ((![v91, v215] : Fin 2 → IVec S16 32) a x).toNat < S512x50.size a := fun v91 v215 k0_hw13 => k0_hw13

def k0_chk14 (v91 : IVec S16 32) (v225 : IVec S16 32) : Prop :=
  (∀ a x, ((![v91, v225] : Fin 2 → IVec S16 32) a x).toNat < S512x50.size a)
theorem k0_idx14_inb : ∀ (v91 : IVec S16 32) (v225 : IVec S16 32) (k0_hw14 : k0_chk14 v91 v225), ∀ a x, ((![v91, v225] : Fin 2 → IVec S16 32) a x).toNat < S512x50.size a := fun v91 v225 k0_hw14 => k0_hw14

def k0_chk15 (v91 : IVec S16 32) (v235 : IVec S16 32) : Prop :=
  (∀ a x, ((![v91, v235] : Fin 2 → IVec S16 32) a x).toNat < S512x50.size a)
theorem k0_idx15_inb : ∀ (v91 : IVec S16 32) (v235 : IVec S16 32) (k0_hw15 : k0_chk15 v91 v235), ∀ a x, ((![v91, v235] : Fin 2 → IVec S16 32) a x).toNat < S512x50.size a := fun v91 v235 k0_hw15 => k0_hw15

def k0_chk16 (v91 : IVec S16 32) (v245 : IVec S16 32) : Prop :=
  (∀ a x, ((![v91, v245] : Fin 2 → IVec S16 32) a x).toNat < S512x50.size a)
theorem k0_idx16_inb : ∀ (v91 : IVec S16 32) (v245 : IVec S16 32) (k0_hw16 : k0_chk16 v91 v245), ∀ a x, ((![v91, v245] : Fin 2 → IVec S16 32) a x).toNat < S512x50.size a := fun v91 v245 k0_hw16 => k0_hw16

def k0_chk17 (v91 : IVec S16 32) (v255 : IVec S16 32) : Prop :=
  (∀ a x, ((![v91, v255] : Fin 2 → IVec S16 32) a x).toNat < S512x50.size a)
theorem k0_idx17_inb : ∀ (v91 : IVec S16 32) (v255 : IVec S16 32) (k0_hw17 : k0_chk17 v91 v255), ∀ a x, ((![v91, v255] : Fin 2 → IVec S16 32) a x).toNat < S512x50.size a := fun v91 v255 k0_hw17 => k0_hw17

def k0_chk18 (v91 : IVec S16 32) (v265 : IVec S16 32) : Prop :=
  (∀ a x, ((![v91, v265] : Fin 2 → IVec S16 32) a x).toNat < S512x50.size a)
theorem k0_idx18_inb : ∀ (v91 : IVec S16 32) (v265 : IVec S16 32) (k0_hw18 : k0_chk18 v91 v265), ∀ a x, ((![v91, v265] : Fin 2 → IVec S16 32) a x).toNat < S512x50.size a := fun v91 v265 k0_hw18 => k0_hw18

def k0_chk19 (v91 : IVec S16 32) (v275 : IVec S16 32) : Prop :=
  (∀ a x, ((![v91, v275] : Fin 2 → IVec S16 32) a x).toNat < S512x50.size a)
theorem k0_idx19_inb : ∀ (v91 : IVec S16 32) (v275 : IVec S16 32) (k0_hw19 : k0_chk19 v91 v275), ∀ a x, ((![v91, v275] : Fin 2 → IVec S16 32) a x).toNat < S512x50.size a := fun v91 v275 k0_hw19 => k0_hw19

def k0_chk20 (v91 : IVec S16 32) (v285 : IVec S16 32) : Prop :=
  (∀ a x, ((![v91, v285] : Fin 2 → IVec S16 32) a x).toNat < S512x50.size a)
theorem k0_idx20_inb : ∀ (v91 : IVec S16 32) (v285 : IVec S16 32) (k0_hw20 : k0_chk20 v91 v285), ∀ a x, ((![v91, v285] : Fin 2 → IVec S16 32) a x).toNat < S512x50.size a := fun v91 v285 k0_hw20 => k0_hw20

def k0_chk21 (v91 : IVec S16 32) (v295 : IVec S16 32) : Prop :=
  (∀ a x, ((![v91, v295] : Fin 2 → IVec S16 32) a x).toNat < S512x50.size a)
theorem k0_idx21_inb : ∀ (v91 : IVec S16 32) (v295 : IVec S16 32) (k0_hw21 : k0_chk21 v91 v295), ∀ a x, ((![v91, v295] : Fin 2 → IVec S16 32) a x).toNat < S512x50.size a := fun v91 v295 k0_hw21 => k0_hw21

def k0_chk22 (v91 : IVec S16 32) (v305 : IVec S16 32) : Prop :=
  (∀ a x, ((![v91, v305] : Fin 2 → IVec S16 32) a x).toNat < S512x50.size a)
theorem k0_idx22_inb : ∀ (v91 : IVec S16 32) (v305 : IVec S16 32) (k0_hw22 : k0_chk22 v91 v305), ∀ a x, ((![v91, v305] : Fin 2 → IVec S16 32) a x).toNat < S512x50.size a := fun v91 v305 k0_hw22 => k0_hw22

def k0_chk23 (v91 : IVec S16 32) (v315 : IVec S16 32) : Prop :=
  (∀ a x, ((![v91, v315] : Fin 2 → IVec S16 32) a x).toNat < S512x50.size a)
theorem k0_idx23_inb : ∀ (v91 : IVec S16 32) (v315 : IVec S16 32) (k0_hw23 : k0_chk23 v91 v315), ∀ a x, ((![v91, v315] : Fin 2 → IVec S16 32) a x).toNat < S512x50.size a := fun v91 v315 k0_hw23 => k0_hw23

def k0_chk24 (v91 : IVec S16 32) (v325 : IVec S16 32) : Prop :=
  (∀ a x, ((![v91, v325] : Fin 2 → IVec S16 32) a x).toNat < S512x50.size a)
theorem k0_idx24_inb : ∀ (v91 : IVec S16 32) (v325 : IVec S16 32) (k0_hw24 : k0_chk24 v91 v325), ∀ a x, ((![v91, v325] : Fin 2 → IVec S16 32) a x).toNat < S512x50.size a := fun v91 v325 k0_hw24 => k0_hw24

def k0_chk25 (v91 : IVec S16 32) (v335 : IVec S16 32) : Prop :=
  (∀ a x, ((![v91, v335] : Fin 2 → IVec S16 32) a x).toNat < S512x50.size a)
theorem k0_idx25_inb : ∀ (v91 : IVec S16 32) (v335 : IVec S16 32) (k0_hw25 : k0_chk25 v91 v335), ∀ a x, ((![v91, v335] : Fin 2 → IVec S16 32) a x).toNat < S512x50.size a := fun v91 v335 k0_hw25 => k0_hw25

def k0_chk26 (v91 : IVec S16 32) (v345 : IVec S16 32) : Prop :=
  (∀ a x, ((![v91, v345] : Fin 2 → IVec S16 32) a x).toNat < S512x50.size a)
theorem k0_idx26_inb : ∀ (v91 : IVec S16 32) (v345 : IVec S16 32) (k0_hw26 : k0_chk26 v91 v345), ∀ a x, ((![v91, v345] : Fin 2 → IVec S16 32) a x).toNat < S512x50.size a := fun v91 v345 k0_hw26 => k0_hw26

def k0_chk27 (v91 : IVec S16 32) (v355 : IVec S16 32) : Prop :=
  (∀ a x, ((![v91, v355] : Fin 2 → IVec S16 32) a x).toNat < S512x50.size a)
theorem k0_idx27_inb : ∀ (v91 : IVec S16 32) (v355 : IVec S16 32) (k0_hw27 : k0_chk27 v91 v355), ∀ a x, ((![v91, v355] : Fin 2 → IVec S16 32) a x).toNat < S512x50.size a := fun v91 v355 k0_hw27 => k0_hw27

def k0_chk28 (v91 : IVec S16 32) (v365 : IVec S16 32) : Prop :=
  (∀ a x, ((![v91, v365] : Fin 2 → IVec S16 32) a x).toNat < S512x50.size a)
theorem k0_idx28_inb : ∀ (v91 : IVec S16 32) (v365 : IVec S16 32) (k0_hw28 : k0_chk28 v91 v365), ∀ a x, ((![v91, v365] : Fin 2 → IVec S16 32) a x).toNat < S512x50.size a := fun v91 v365 k0_hw28 => k0_hw28

def k0_chk29 (v91 : IVec S16 32) (v375 : IVec S16 32) : Prop :=
  (∀ a x, ((![v91, v375] : Fin 2 → IVec S16 32) a x).toNat < S512x50.size a)
theorem k0_idx29_inb : ∀ (v91 : IVec S16 32) (v375 : IVec S16 32) (k0_hw29 : k0_chk29 v91 v375), ∀ a x, ((![v91, v375] : Fin 2 → IVec S16 32) a x).toNat < S512x50.size a := fun v91 v375 k0_hw29 => k0_hw29

def k0_chk30 (v91 : IVec S16 32) (v385 : IVec S16 32) : Prop :=
  (∀ a x, ((![v91, v385] : Fin 2 → IVec S16 32) a x).toNat < S512x50.size a)
theorem k0_idx30_inb : ∀ (v91 : IVec S16 32) (v385 : IVec S16 32) (k0_hw30 : k0_chk30 v91 v385), ∀ a x, ((![v91, v385] : Fin 2 → IVec S16 32) a x).toNat < S512x50.size a := fun v91 v385 k0_hw30 => k0_hw30

def k0_chk31 (v91 : IVec S16 32) (v395 : IVec S16 32) : Prop :=
  (∀ a x, ((![v91, v395] : Fin 2 → IVec S16 32) a x).toNat < S512x50.size a)
theorem k0_idx31_inb : ∀ (v91 : IVec S16 32) (v395 : IVec S16 32) (k0_hw31 : k0_chk31 v91 v395), ∀ a x, ((![v91, v395] : Fin 2 → IVec S16 32) a x).toNat < S512x50.size a := fun v91 v395 k0_hw31 => k0_hw31

def k0_chk32 (v91 : IVec S16 32) (v405 : IVec S16 32) : Prop :=
  (∀ a x, ((![v91, v405] : Fin 2 → IVec S16 32) a x).toNat < S512x50.size a)
theorem k0_idx32_inb : ∀ (v91 : IVec S16 32) (v405 : IVec S16 32) (k0_hw32 : k0_chk32 v91 v405), ∀ a x, ((![v91, v405] : Fin 2 → IVec S16 32) a x).toNat < S512x50.size a := fun v91 v405 k0_hw32 => k0_hw32

def k0_chk33 (v91 : IVec S16 32) (v415 : IVec S16 32) : Prop :=
  (∀ a x, ((![v91, v415] : Fin 2 → IVec S16 32) a x).toNat < S512x50.size a)
theorem k0_idx33_inb : ∀ (v91 : IVec S16 32) (v415 : IVec S16 32) (k0_hw33 : k0_chk33 v91 v415), ∀ a x, ((![v91, v415] : Fin 2 → IVec S16 32) a x).toNat < S512x50.size a := fun v91 v415 k0_hw33 => k0_hw33

def k0_chk34 (v91 : IVec S16 32) (v425 : IVec S16 32) : Prop :=
  (∀ a x, ((![v91, v425] : Fin 2 → IVec S16 32) a x).toNat < S512x50.size a)
theorem k0_idx34_inb : ∀ (v91 : IVec S16 32) (v425 : IVec S16 32) (k0_hw34 : k0_chk34 v91 v425), ∀ a x, ((![v91, v425] : Fin 2 → IVec S16 32) a x).toNat < S512x50.size a := fun v91 v425 k0_hw34 => k0_hw34

def k0_chk35 (v91 : IVec S16 32) (v435 : IVec S16 32) : Prop :=
  (∀ a x, ((![v91, v435] : Fin 2 → IVec S16 32) a x).toNat < S512x50.size a)
theorem k0_idx35_inb : ∀ (v91 : IVec S16 32) (v435 : IVec S16 32) (k0_hw35 : k0_chk35 v91 v435), ∀ a x, ((![v91, v435] : Fin 2 → IVec S16 32) a x).toNat < S512x50.size a := fun v91 v435 k0_hw35 => k0_hw35

def k0_chk36 (v91 : IVec S16 32) (v445 : IVec S16 32) : Prop :=
  (∀ a x, ((![v91, v445] : Fin 2 → IVec S16 32) a x).toNat < S512x50.size a)
theorem k0_idx36_inb : ∀ (v91 : IVec S16 32) (v445 : IVec S16 32) (k0_hw36 : k0_chk36 v91 v445), ∀ a x, ((![v91, v445] : Fin 2 → IVec S16 32) a x).toNat < S512x50.size a := fun v91 v445 k0_hw36 => k0_hw36

def k0_chk37 (v91 : IVec S16 32) (v455 : IVec S16 32) : Prop :=
  (∀ a x, ((![v91, v455] : Fin 2 → IVec S16 32) a x).toNat < S512x50.size a)
theorem k0_idx37_inb : ∀ (v91 : IVec S16 32) (v455 : IVec S16 32) (k0_hw37 : k0_chk37 v91 v455), ∀ a x, ((![v91, v455] : Fin 2 → IVec S16 32) a x).toNat < S512x50.size a := fun v91 v455 k0_hw37 => k0_hw37

def k0_chk38 (v91 : IVec S16 32) (v465 : IVec S16 32) : Prop :=
  (∀ a x, ((![v91, v465] : Fin 2 → IVec S16 32) a x).toNat < S512x50.size a)
theorem k0_idx38_inb : ∀ (v91 : IVec S16 32) (v465 : IVec S16 32) (k0_hw38 : k0_chk38 v91 v465), ∀ a x, ((![v91, v465] : Fin 2 → IVec S16 32) a x).toNat < S512x50.size a := fun v91 v465 k0_hw38 => k0_hw38

def k0_chk39 (v91 : IVec S16 32) (v475 : IVec S16 32) : Prop :=
  (∀ a x, ((![v91, v475] : Fin 2 → IVec S16 32) a x).toNat < S512x50.size a)
theorem k0_idx39_inb : ∀ (v91 : IVec S16 32) (v475 : IVec S16 32) (k0_hw39 : k0_chk39 v91 v475), ∀ a x, ((![v91, v475] : Fin 2 → IVec S16 32) a x).toNat < S512x50.size a := fun v91 v475 k0_hw39 => k0_hw39

def k0_chk40 (v91 : IVec S16 32) (v485 : IVec S16 32) : Prop :=
  (∀ a x, ((![v91, v485] : Fin 2 → IVec S16 32) a x).toNat < S512x50.size a)
theorem k0_idx40_inb : ∀ (v91 : IVec S16 32) (v485 : IVec S16 32) (k0_hw40 : k0_chk40 v91 v485), ∀ a x, ((![v91, v485] : Fin 2 → IVec S16 32) a x).toNat < S512x50.size a := fun v91 v485 k0_hw40 => k0_hw40

def k0_chk41 (v91 : IVec S16 32) (v495 : IVec S16 32) : Prop :=
  (∀ a x, ((![v91, v495] : Fin 2 → IVec S16 32) a x).toNat < S512x50.size a)
theorem k0_idx41_inb : ∀ (v91 : IVec S16 32) (v495 : IVec S16 32) (k0_hw41 : k0_chk41 v91 v495), ∀ a x, ((![v91, v495] : Fin 2 → IVec S16 32) a x).toNat < S512x50.size a := fun v91 v495 k0_hw41 => k0_hw41

def k0_chk42 (v91 : IVec S16 32) (v505 : IVec S16 32) : Prop :=
  (∀ a x, ((![v91, v505] : Fin 2 → IVec S16 32) a x).toNat < S512x50.size a)
theorem k0_idx42_inb : ∀ (v91 : IVec S16 32) (v505 : IVec S16 32) (k0_hw42 : k0_chk42 v91 v505), ∀ a x, ((![v91, v505] : Fin 2 → IVec S16 32) a x).toNat < S512x50.size a := fun v91 v505 k0_hw42 => k0_hw42

def k0_chk43 (v91 : IVec S16 32) (v515 : IVec S16 32) : Prop :=
  (∀ a x, ((![v91, v515] : Fin 2 → IVec S16 32) a x).toNat < S512x50.size a)
theorem k0_idx43_inb : ∀ (v91 : IVec S16 32) (v515 : IVec S16 32) (k0_hw43 : k0_chk43 v91 v515), ∀ a x, ((![v91, v515] : Fin 2 → IVec S16 32) a x).toNat < S512x50.size a := fun v91 v515 k0_hw43 => k0_hw43

def k0_chk44 (v91 : IVec S16 32) (v525 : IVec S16 32) : Prop :=
  (∀ a x, ((![v91, v525] : Fin 2 → IVec S16 32) a x).toNat < S512x50.size a)
theorem k0_idx44_inb : ∀ (v91 : IVec S16 32) (v525 : IVec S16 32) (k0_hw44 : k0_chk44 v91 v525), ∀ a x, ((![v91, v525] : Fin 2 → IVec S16 32) a x).toNat < S512x50.size a := fun v91 v525 k0_hw44 => k0_hw44

def k0_chk45 (v91 : IVec S16 32) (v535 : IVec S16 32) : Prop :=
  (∀ a x, ((![v91, v535] : Fin 2 → IVec S16 32) a x).toNat < S512x50.size a)
theorem k0_idx45_inb : ∀ (v91 : IVec S16 32) (v535 : IVec S16 32) (k0_hw45 : k0_chk45 v91 v535), ∀ a x, ((![v91, v535] : Fin 2 → IVec S16 32) a x).toNat < S512x50.size a := fun v91 v535 k0_hw45 => k0_hw45

def k0_chk46 (v91 : IVec S16 32) (v545 : IVec S16 32) : Prop :=
  (∀ a x, ((![v91, v545] : Fin 2 → IVec S16 32) a x).toNat < S512x50.size a)
theorem k0_idx46_inb : ∀ (v91 : IVec S16 32) (v545 : IVec S16 32) (k0_hw46 : k0_chk46 v91 v545), ∀ a x, ((![v91, v545] : Fin 2 → IVec S16 32) a x).toNat < S512x50.size a := fun v91 v545 k0_hw46 => k0_hw46

def k0_chk47 (v91 : IVec S16 32) (v555 : IVec S16 32) : Prop :=
  (∀ a x, ((![v91, v555] : Fin 2 → IVec S16 32) a x).toNat < S512x50.size a)
theorem k0_idx47_inb : ∀ (v91 : IVec S16 32) (v555 : IVec S16 32) (k0_hw47 : k0_chk47 v91 v555), ∀ a x, ((![v91, v555] : Fin 2 → IVec S16 32) a x).toNat < S512x50.size a := fun v91 v555 k0_hw47 => k0_hw47

def k0_chk48 (v91 : IVec S16 32) (v565 : IVec S16 32) : Prop :=
  (∀ a x, ((![v91, v565] : Fin 2 → IVec S16 32) a x).toNat < S512x50.size a)
theorem k0_idx48_inb : ∀ (v91 : IVec S16 32) (v565 : IVec S16 32) (k0_hw48 : k0_chk48 v91 v565), ∀ a x, ((![v91, v565] : Fin 2 → IVec S16 32) a x).toNat < S512x50.size a := fun v91 v565 k0_hw48 => k0_hw48

def k0_chk49 (v91 : IVec S16 32) (v575 : IVec S16 32) : Prop :=
  (∀ a x, ((![v91, v575] : Fin 2 → IVec S16 32) a x).toNat < S512x50.size a)
theorem k0_idx49_inb : ∀ (v91 : IVec S16 32) (v575 : IVec S16 32) (k0_hw49 : k0_chk49 v91 v575), ∀ a x, ((![v91, v575] : Fin 2 → IVec S16 32) a x).toNat < S512x50.size a := fun v91 v575 k0_hw49 => k0_hw49

def k0_chk50 (v91 : IVec S16 32) (v585 : IVec S16 32) : Prop :=
  (∀ a x, ((![v91, v585] : Fin 2 → IVec S16 32) a x).toNat < S512x50.size a)
theorem k0_idx50_inb : ∀ (v91 : IVec S16 32) (v585 : IVec S16 32) (k0_hw50 : k0_chk50 v91 v585), ∀ a x, ((![v91, v585] : Fin 2 → IVec S16 32) a x).toNat < S512x50.size a := fun v91 v585 k0_hw50 => k0_hw50

def k0_chk51 (v609 : IVec S16 32) : Prop :=
  (∀ a x, ((![v609] : Fin 1 → IVec S16 32) a x).toNat < S48.size a)
theorem k0_idx51_inb : ∀ (v609 : IVec S16 32) (k0_hw51 : k0_chk51 v609), ∀ a x, ((![v609] : Fin 1 → IVec S16 32) a x).toNat < S48.size a := fun v609 k0_hw51 => k0_hw51

def k0_chk52 (v612 : IVec S16 32) : Prop :=
  (∀ a x, ((![v612] : Fin 1 → IVec S16 32) a x).toNat < S48.size a)
theorem k0_idx52_inb : ∀ (v612 : IVec S16 32) (k0_hw52 : k0_chk52 v612), ∀ a x, ((![v612] : Fin 1 → IVec S16 32) a x).toNat < S48.size a := fun v612 k0_hw52 => k0_hw52

def k0_chk53 (v615 : IVec S16 32) : Prop :=
  (∀ a x, ((![v615] : Fin 1 → IVec S16 32) a x).toNat < S48.size a)
theorem k0_idx53_inb : ∀ (v615 : IVec S16 32) (k0_hw53 : k0_chk53 v615), ∀ a x, ((![v615] : Fin 1 → IVec S16 32) a x).toNat < S48.size a := fun v615 k0_hw53 => k0_hw53
def k0_off2 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_155 : BitVec 32 := 16#32
  let v617 : BitVec 32 := Scalar.muli arg9 c16_i32_155
  let c0_i32_156 : BitVec 32 := 0#32
  let v618 : BitVec 32 := Scalar.addi v617 c0_i32_156
  let v625 : Index := Scalar.indexCast v618
  let c0_157 : Index := 0#32
  ![v625.toNat, 0]
def k0_off3 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_155 : BitVec 32 := 16#32
  let v617 : BitVec 32 := Scalar.muli arg9 c16_i32_155
  let c0_i32_156 : BitVec 32 := 0#32
  let v618 : BitVec 32 := Scalar.addi v617 c0_i32_156
  let v635 : Index := Scalar.indexCast v618
  let c16_158 : Index := 16#32
  ![v635.toNat, 16]
def k0_off4 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_155 : BitVec 32 := 16#32
  let v617 : BitVec 32 := Scalar.muli arg9 c16_i32_155
  let c0_i32_156 : BitVec 32 := 0#32
  let v618 : BitVec 32 := Scalar.addi v617 c0_i32_156
  let v645 : Index := Scalar.indexCast v618
  let c32_159 : Index := 32#32
  ![v645.toNat, 32]
def k0_off5 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_155 : BitVec 32 := 16#32
  let v617 : BitVec 32 := Scalar.muli arg9 c16_i32_155
  let c0_i32_156 : BitVec 32 := 0#32
  let v618 : BitVec 32 := Scalar.addi v617 c0_i32_156
  let v655 : Index := Scalar.indexCast v618
  let c48_160 : Index := 48#32
  ![v655.toNat, 48]

def k0_chk54 (v659 : IVec S16 32) : Prop :=
  (∀ a x, ((![v659] : Fin 1 → IVec S16 32) a x).toNat < S48.size a)
theorem k0_idx54_inb : ∀ (v659 : IVec S16 32) (k0_hw54 : k0_chk54 v659), ∀ a x, ((![v659] : Fin 1 → IVec S16 32) a x).toNat < S48.size a := fun v659 k0_hw54 => k0_hw54

def k0_chk55 (v662 : IVec S16 32) : Prop :=
  (∀ a x, ((![v662] : Fin 1 → IVec S16 32) a x).toNat < S48.size a)
theorem k0_idx55_inb : ∀ (v662 : IVec S16 32) (k0_hw55 : k0_chk55 v662), ∀ a x, ((![v662] : Fin 1 → IVec S16 32) a x).toNat < S48.size a := fun v662 k0_hw55 => k0_hw55

def k0_chk56 (v665 : IVec S16 32) : Prop :=
  (∀ a x, ((![v665] : Fin 1 → IVec S16 32) a x).toNat < S48.size a)
theorem k0_idx56_inb : ∀ (v665 : IVec S16 32) (k0_hw56 : k0_chk56 v665), ∀ a x, ((![v665] : Fin 1 → IVec S16 32) a x).toNat < S48.size a := fun v665 k0_hw56 => k0_hw56
def k0_off6 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_164 : BitVec 32 := 16#32
  let v667 : BitVec 32 := Scalar.muli arg9 c16_i32_164
  let c1_i32_165 : BitVec 32 := 1#32
  let v668 : BitVec 32 := Scalar.addi v667 c1_i32_165
  let v675 : Index := Scalar.indexCast v668
  let c0_166 : Index := 0#32
  ![v675.toNat, 0]
def k0_off7 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_164 : BitVec 32 := 16#32
  let v667 : BitVec 32 := Scalar.muli arg9 c16_i32_164
  let c1_i32_165 : BitVec 32 := 1#32
  let v668 : BitVec 32 := Scalar.addi v667 c1_i32_165
  let v685 : Index := Scalar.indexCast v668
  let c16_167 : Index := 16#32
  ![v685.toNat, 16]
def k0_off8 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_164 : BitVec 32 := 16#32
  let v667 : BitVec 32 := Scalar.muli arg9 c16_i32_164
  let c1_i32_165 : BitVec 32 := 1#32
  let v668 : BitVec 32 := Scalar.addi v667 c1_i32_165
  let v695 : Index := Scalar.indexCast v668
  let c32_168 : Index := 32#32
  ![v695.toNat, 32]
def k0_off9 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_164 : BitVec 32 := 16#32
  let v667 : BitVec 32 := Scalar.muli arg9 c16_i32_164
  let c1_i32_165 : BitVec 32 := 1#32
  let v668 : BitVec 32 := Scalar.addi v667 c1_i32_165
  let v705 : Index := Scalar.indexCast v668
  let c48_169 : Index := 48#32
  ![v705.toNat, 48]

def k0_chk57 (v709 : IVec S16 32) : Prop :=
  (∀ a x, ((![v709] : Fin 1 → IVec S16 32) a x).toNat < S48.size a)
theorem k0_idx57_inb : ∀ (v709 : IVec S16 32) (k0_hw57 : k0_chk57 v709), ∀ a x, ((![v709] : Fin 1 → IVec S16 32) a x).toNat < S48.size a := fun v709 k0_hw57 => k0_hw57

def k0_chk58 (v712 : IVec S16 32) : Prop :=
  (∀ a x, ((![v712] : Fin 1 → IVec S16 32) a x).toNat < S48.size a)
theorem k0_idx58_inb : ∀ (v712 : IVec S16 32) (k0_hw58 : k0_chk58 v712), ∀ a x, ((![v712] : Fin 1 → IVec S16 32) a x).toNat < S48.size a := fun v712 k0_hw58 => k0_hw58

def k0_chk59 (v715 : IVec S16 32) : Prop :=
  (∀ a x, ((![v715] : Fin 1 → IVec S16 32) a x).toNat < S48.size a)
theorem k0_idx59_inb : ∀ (v715 : IVec S16 32) (k0_hw59 : k0_chk59 v715), ∀ a x, ((![v715] : Fin 1 → IVec S16 32) a x).toNat < S48.size a := fun v715 k0_hw59 => k0_hw59
def k0_off10 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_173 : BitVec 32 := 16#32
  let v717 : BitVec 32 := Scalar.muli arg9 c16_i32_173
  let c2_i32_174 : BitVec 32 := 2#32
  let v718 : BitVec 32 := Scalar.addi v717 c2_i32_174
  let v725 : Index := Scalar.indexCast v718
  let c0_175 : Index := 0#32
  ![v725.toNat, 0]
def k0_off11 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_173 : BitVec 32 := 16#32
  let v717 : BitVec 32 := Scalar.muli arg9 c16_i32_173
  let c2_i32_174 : BitVec 32 := 2#32
  let v718 : BitVec 32 := Scalar.addi v717 c2_i32_174
  let v735 : Index := Scalar.indexCast v718
  let c16_176 : Index := 16#32
  ![v735.toNat, 16]
def k0_off12 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_173 : BitVec 32 := 16#32
  let v717 : BitVec 32 := Scalar.muli arg9 c16_i32_173
  let c2_i32_174 : BitVec 32 := 2#32
  let v718 : BitVec 32 := Scalar.addi v717 c2_i32_174
  let v745 : Index := Scalar.indexCast v718
  let c32_177 : Index := 32#32
  ![v745.toNat, 32]
def k0_off13 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_173 : BitVec 32 := 16#32
  let v717 : BitVec 32 := Scalar.muli arg9 c16_i32_173
  let c2_i32_174 : BitVec 32 := 2#32
  let v718 : BitVec 32 := Scalar.addi v717 c2_i32_174
  let v755 : Index := Scalar.indexCast v718
  let c48_178 : Index := 48#32
  ![v755.toNat, 48]

def k0_chk60 (v759 : IVec S16 32) : Prop :=
  (∀ a x, ((![v759] : Fin 1 → IVec S16 32) a x).toNat < S48.size a)
theorem k0_idx60_inb : ∀ (v759 : IVec S16 32) (k0_hw60 : k0_chk60 v759), ∀ a x, ((![v759] : Fin 1 → IVec S16 32) a x).toNat < S48.size a := fun v759 k0_hw60 => k0_hw60

def k0_chk61 (v762 : IVec S16 32) : Prop :=
  (∀ a x, ((![v762] : Fin 1 → IVec S16 32) a x).toNat < S48.size a)
theorem k0_idx61_inb : ∀ (v762 : IVec S16 32) (k0_hw61 : k0_chk61 v762), ∀ a x, ((![v762] : Fin 1 → IVec S16 32) a x).toNat < S48.size a := fun v762 k0_hw61 => k0_hw61

def k0_chk62 (v765 : IVec S16 32) : Prop :=
  (∀ a x, ((![v765] : Fin 1 → IVec S16 32) a x).toNat < S48.size a)
theorem k0_idx62_inb : ∀ (v765 : IVec S16 32) (k0_hw62 : k0_chk62 v765), ∀ a x, ((![v765] : Fin 1 → IVec S16 32) a x).toNat < S48.size a := fun v765 k0_hw62 => k0_hw62
def k0_off14 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_182 : BitVec 32 := 16#32
  let v767 : BitVec 32 := Scalar.muli arg9 c16_i32_182
  let c3_i32_183 : BitVec 32 := 3#32
  let v768 : BitVec 32 := Scalar.addi v767 c3_i32_183
  let v775 : Index := Scalar.indexCast v768
  let c0_184 : Index := 0#32
  ![v775.toNat, 0]
def k0_off15 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_182 : BitVec 32 := 16#32
  let v767 : BitVec 32 := Scalar.muli arg9 c16_i32_182
  let c3_i32_183 : BitVec 32 := 3#32
  let v768 : BitVec 32 := Scalar.addi v767 c3_i32_183
  let v785 : Index := Scalar.indexCast v768
  let c16_185 : Index := 16#32
  ![v785.toNat, 16]
def k0_off16 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_182 : BitVec 32 := 16#32
  let v767 : BitVec 32 := Scalar.muli arg9 c16_i32_182
  let c3_i32_183 : BitVec 32 := 3#32
  let v768 : BitVec 32 := Scalar.addi v767 c3_i32_183
  let v795 : Index := Scalar.indexCast v768
  let c32_186 : Index := 32#32
  ![v795.toNat, 32]
def k0_off17 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_182 : BitVec 32 := 16#32
  let v767 : BitVec 32 := Scalar.muli arg9 c16_i32_182
  let c3_i32_183 : BitVec 32 := 3#32
  let v768 : BitVec 32 := Scalar.addi v767 c3_i32_183
  let v805 : Index := Scalar.indexCast v768
  let c48_187 : Index := 48#32
  ![v805.toNat, 48]

def k0_chk63 (v809 : IVec S16 32) : Prop :=
  (∀ a x, ((![v809] : Fin 1 → IVec S16 32) a x).toNat < S48.size a)
theorem k0_idx63_inb : ∀ (v809 : IVec S16 32) (k0_hw63 : k0_chk63 v809), ∀ a x, ((![v809] : Fin 1 → IVec S16 32) a x).toNat < S48.size a := fun v809 k0_hw63 => k0_hw63

def k0_chk64 (v812 : IVec S16 32) : Prop :=
  (∀ a x, ((![v812] : Fin 1 → IVec S16 32) a x).toNat < S48.size a)
theorem k0_idx64_inb : ∀ (v812 : IVec S16 32) (k0_hw64 : k0_chk64 v812), ∀ a x, ((![v812] : Fin 1 → IVec S16 32) a x).toNat < S48.size a := fun v812 k0_hw64 => k0_hw64

def k0_chk65 (v815 : IVec S16 32) : Prop :=
  (∀ a x, ((![v815] : Fin 1 → IVec S16 32) a x).toNat < S48.size a)
theorem k0_idx65_inb : ∀ (v815 : IVec S16 32) (k0_hw65 : k0_chk65 v815), ∀ a x, ((![v815] : Fin 1 → IVec S16 32) a x).toNat < S48.size a := fun v815 k0_hw65 => k0_hw65
def k0_off18 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_191 : BitVec 32 := 16#32
  let v817 : BitVec 32 := Scalar.muli arg9 c16_i32_191
  let c4_i32_192 : BitVec 32 := 4#32
  let v818 : BitVec 32 := Scalar.addi v817 c4_i32_192
  let v825 : Index := Scalar.indexCast v818
  let c0_193 : Index := 0#32
  ![v825.toNat, 0]
def k0_off19 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_191 : BitVec 32 := 16#32
  let v817 : BitVec 32 := Scalar.muli arg9 c16_i32_191
  let c4_i32_192 : BitVec 32 := 4#32
  let v818 : BitVec 32 := Scalar.addi v817 c4_i32_192
  let v835 : Index := Scalar.indexCast v818
  let c16_194 : Index := 16#32
  ![v835.toNat, 16]
def k0_off20 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_191 : BitVec 32 := 16#32
  let v817 : BitVec 32 := Scalar.muli arg9 c16_i32_191
  let c4_i32_192 : BitVec 32 := 4#32
  let v818 : BitVec 32 := Scalar.addi v817 c4_i32_192
  let v845 : Index := Scalar.indexCast v818
  let c32_195 : Index := 32#32
  ![v845.toNat, 32]
def k0_off21 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_191 : BitVec 32 := 16#32
  let v817 : BitVec 32 := Scalar.muli arg9 c16_i32_191
  let c4_i32_192 : BitVec 32 := 4#32
  let v818 : BitVec 32 := Scalar.addi v817 c4_i32_192
  let v855 : Index := Scalar.indexCast v818
  let c48_196 : Index := 48#32
  ![v855.toNat, 48]

def k0_chk66 (v859 : IVec S16 32) : Prop :=
  (∀ a x, ((![v859] : Fin 1 → IVec S16 32) a x).toNat < S48.size a)
theorem k0_idx66_inb : ∀ (v859 : IVec S16 32) (k0_hw66 : k0_chk66 v859), ∀ a x, ((![v859] : Fin 1 → IVec S16 32) a x).toNat < S48.size a := fun v859 k0_hw66 => k0_hw66

def k0_chk67 (v862 : IVec S16 32) : Prop :=
  (∀ a x, ((![v862] : Fin 1 → IVec S16 32) a x).toNat < S48.size a)
theorem k0_idx67_inb : ∀ (v862 : IVec S16 32) (k0_hw67 : k0_chk67 v862), ∀ a x, ((![v862] : Fin 1 → IVec S16 32) a x).toNat < S48.size a := fun v862 k0_hw67 => k0_hw67

def k0_chk68 (v865 : IVec S16 32) : Prop :=
  (∀ a x, ((![v865] : Fin 1 → IVec S16 32) a x).toNat < S48.size a)
theorem k0_idx68_inb : ∀ (v865 : IVec S16 32) (k0_hw68 : k0_chk68 v865), ∀ a x, ((![v865] : Fin 1 → IVec S16 32) a x).toNat < S48.size a := fun v865 k0_hw68 => k0_hw68
def k0_off22 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_200 : BitVec 32 := 16#32
  let v867 : BitVec 32 := Scalar.muli arg9 c16_i32_200
  let c5_i32_201 : BitVec 32 := 5#32
  let v868 : BitVec 32 := Scalar.addi v867 c5_i32_201
  let v875 : Index := Scalar.indexCast v868
  let c0_202 : Index := 0#32
  ![v875.toNat, 0]
def k0_off23 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_200 : BitVec 32 := 16#32
  let v867 : BitVec 32 := Scalar.muli arg9 c16_i32_200
  let c5_i32_201 : BitVec 32 := 5#32
  let v868 : BitVec 32 := Scalar.addi v867 c5_i32_201
  let v885 : Index := Scalar.indexCast v868
  let c16_203 : Index := 16#32
  ![v885.toNat, 16]
def k0_off24 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_200 : BitVec 32 := 16#32
  let v867 : BitVec 32 := Scalar.muli arg9 c16_i32_200
  let c5_i32_201 : BitVec 32 := 5#32
  let v868 : BitVec 32 := Scalar.addi v867 c5_i32_201
  let v895 : Index := Scalar.indexCast v868
  let c32_204 : Index := 32#32
  ![v895.toNat, 32]
def k0_off25 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_200 : BitVec 32 := 16#32
  let v867 : BitVec 32 := Scalar.muli arg9 c16_i32_200
  let c5_i32_201 : BitVec 32 := 5#32
  let v868 : BitVec 32 := Scalar.addi v867 c5_i32_201
  let v905 : Index := Scalar.indexCast v868
  let c48_205 : Index := 48#32
  ![v905.toNat, 48]

def k0_chk69 (v909 : IVec S16 32) : Prop :=
  (∀ a x, ((![v909] : Fin 1 → IVec S16 32) a x).toNat < S48.size a)
theorem k0_idx69_inb : ∀ (v909 : IVec S16 32) (k0_hw69 : k0_chk69 v909), ∀ a x, ((![v909] : Fin 1 → IVec S16 32) a x).toNat < S48.size a := fun v909 k0_hw69 => k0_hw69

def k0_chk70 (v912 : IVec S16 32) : Prop :=
  (∀ a x, ((![v912] : Fin 1 → IVec S16 32) a x).toNat < S48.size a)
theorem k0_idx70_inb : ∀ (v912 : IVec S16 32) (k0_hw70 : k0_chk70 v912), ∀ a x, ((![v912] : Fin 1 → IVec S16 32) a x).toNat < S48.size a := fun v912 k0_hw70 => k0_hw70

def k0_chk71 (v915 : IVec S16 32) : Prop :=
  (∀ a x, ((![v915] : Fin 1 → IVec S16 32) a x).toNat < S48.size a)
theorem k0_idx71_inb : ∀ (v915 : IVec S16 32) (k0_hw71 : k0_chk71 v915), ∀ a x, ((![v915] : Fin 1 → IVec S16 32) a x).toNat < S48.size a := fun v915 k0_hw71 => k0_hw71
def k0_off26 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_209 : BitVec 32 := 16#32
  let v917 : BitVec 32 := Scalar.muli arg9 c16_i32_209
  let c6_i32_210 : BitVec 32 := 6#32
  let v918 : BitVec 32 := Scalar.addi v917 c6_i32_210
  let v925 : Index := Scalar.indexCast v918
  let c0_211 : Index := 0#32
  ![v925.toNat, 0]
def k0_off27 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_209 : BitVec 32 := 16#32
  let v917 : BitVec 32 := Scalar.muli arg9 c16_i32_209
  let c6_i32_210 : BitVec 32 := 6#32
  let v918 : BitVec 32 := Scalar.addi v917 c6_i32_210
  let v935 : Index := Scalar.indexCast v918
  let c16_212 : Index := 16#32
  ![v935.toNat, 16]
def k0_off28 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_209 : BitVec 32 := 16#32
  let v917 : BitVec 32 := Scalar.muli arg9 c16_i32_209
  let c6_i32_210 : BitVec 32 := 6#32
  let v918 : BitVec 32 := Scalar.addi v917 c6_i32_210
  let v945 : Index := Scalar.indexCast v918
  let c32_213 : Index := 32#32
  ![v945.toNat, 32]
def k0_off29 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_209 : BitVec 32 := 16#32
  let v917 : BitVec 32 := Scalar.muli arg9 c16_i32_209
  let c6_i32_210 : BitVec 32 := 6#32
  let v918 : BitVec 32 := Scalar.addi v917 c6_i32_210
  let v955 : Index := Scalar.indexCast v918
  let c48_214 : Index := 48#32
  ![v955.toNat, 48]

def k0_chk72 (v959 : IVec S16 32) : Prop :=
  (∀ a x, ((![v959] : Fin 1 → IVec S16 32) a x).toNat < S48.size a)
theorem k0_idx72_inb : ∀ (v959 : IVec S16 32) (k0_hw72 : k0_chk72 v959), ∀ a x, ((![v959] : Fin 1 → IVec S16 32) a x).toNat < S48.size a := fun v959 k0_hw72 => k0_hw72

def k0_chk73 (v962 : IVec S16 32) : Prop :=
  (∀ a x, ((![v962] : Fin 1 → IVec S16 32) a x).toNat < S48.size a)
theorem k0_idx73_inb : ∀ (v962 : IVec S16 32) (k0_hw73 : k0_chk73 v962), ∀ a x, ((![v962] : Fin 1 → IVec S16 32) a x).toNat < S48.size a := fun v962 k0_hw73 => k0_hw73

def k0_chk74 (v965 : IVec S16 32) : Prop :=
  (∀ a x, ((![v965] : Fin 1 → IVec S16 32) a x).toNat < S48.size a)
theorem k0_idx74_inb : ∀ (v965 : IVec S16 32) (k0_hw74 : k0_chk74 v965), ∀ a x, ((![v965] : Fin 1 → IVec S16 32) a x).toNat < S48.size a := fun v965 k0_hw74 => k0_hw74
def k0_off30 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_218 : BitVec 32 := 16#32
  let v967 : BitVec 32 := Scalar.muli arg9 c16_i32_218
  let c7_i32_219 : BitVec 32 := 7#32
  let v968 : BitVec 32 := Scalar.addi v967 c7_i32_219
  let v975 : Index := Scalar.indexCast v968
  let c0_220 : Index := 0#32
  ![v975.toNat, 0]
def k0_off31 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_218 : BitVec 32 := 16#32
  let v967 : BitVec 32 := Scalar.muli arg9 c16_i32_218
  let c7_i32_219 : BitVec 32 := 7#32
  let v968 : BitVec 32 := Scalar.addi v967 c7_i32_219
  let v985 : Index := Scalar.indexCast v968
  let c16_221 : Index := 16#32
  ![v985.toNat, 16]
def k0_off32 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_218 : BitVec 32 := 16#32
  let v967 : BitVec 32 := Scalar.muli arg9 c16_i32_218
  let c7_i32_219 : BitVec 32 := 7#32
  let v968 : BitVec 32 := Scalar.addi v967 c7_i32_219
  let v995 : Index := Scalar.indexCast v968
  let c32_222 : Index := 32#32
  ![v995.toNat, 32]
def k0_off33 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_218 : BitVec 32 := 16#32
  let v967 : BitVec 32 := Scalar.muli arg9 c16_i32_218
  let c7_i32_219 : BitVec 32 := 7#32
  let v968 : BitVec 32 := Scalar.addi v967 c7_i32_219
  let v1005 : Index := Scalar.indexCast v968
  let c48_223 : Index := 48#32
  ![v1005.toNat, 48]

def k0_chk75 (v1009 : IVec S16 32) : Prop :=
  (∀ a x, ((![v1009] : Fin 1 → IVec S16 32) a x).toNat < S48.size a)
theorem k0_idx75_inb : ∀ (v1009 : IVec S16 32) (k0_hw75 : k0_chk75 v1009), ∀ a x, ((![v1009] : Fin 1 → IVec S16 32) a x).toNat < S48.size a := fun v1009 k0_hw75 => k0_hw75

def k0_chk76 (v1012 : IVec S16 32) : Prop :=
  (∀ a x, ((![v1012] : Fin 1 → IVec S16 32) a x).toNat < S48.size a)
theorem k0_idx76_inb : ∀ (v1012 : IVec S16 32) (k0_hw76 : k0_chk76 v1012), ∀ a x, ((![v1012] : Fin 1 → IVec S16 32) a x).toNat < S48.size a := fun v1012 k0_hw76 => k0_hw76

def k0_chk77 (v1015 : IVec S16 32) : Prop :=
  (∀ a x, ((![v1015] : Fin 1 → IVec S16 32) a x).toNat < S48.size a)
theorem k0_idx77_inb : ∀ (v1015 : IVec S16 32) (k0_hw77 : k0_chk77 v1015), ∀ a x, ((![v1015] : Fin 1 → IVec S16 32) a x).toNat < S48.size a := fun v1015 k0_hw77 => k0_hw77
def k0_off34 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_227 : BitVec 32 := 16#32
  let v1017 : BitVec 32 := Scalar.muli arg9 c16_i32_227
  let c8_i32_228 : BitVec 32 := 8#32
  let v1018 : BitVec 32 := Scalar.addi v1017 c8_i32_228
  let v1025 : Index := Scalar.indexCast v1018
  let c0_229 : Index := 0#32
  ![v1025.toNat, 0]
def k0_off35 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_227 : BitVec 32 := 16#32
  let v1017 : BitVec 32 := Scalar.muli arg9 c16_i32_227
  let c8_i32_228 : BitVec 32 := 8#32
  let v1018 : BitVec 32 := Scalar.addi v1017 c8_i32_228
  let v1035 : Index := Scalar.indexCast v1018
  let c16_230 : Index := 16#32
  ![v1035.toNat, 16]
def k0_off36 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_227 : BitVec 32 := 16#32
  let v1017 : BitVec 32 := Scalar.muli arg9 c16_i32_227
  let c8_i32_228 : BitVec 32 := 8#32
  let v1018 : BitVec 32 := Scalar.addi v1017 c8_i32_228
  let v1045 : Index := Scalar.indexCast v1018
  let c32_231 : Index := 32#32
  ![v1045.toNat, 32]
def k0_off37 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_227 : BitVec 32 := 16#32
  let v1017 : BitVec 32 := Scalar.muli arg9 c16_i32_227
  let c8_i32_228 : BitVec 32 := 8#32
  let v1018 : BitVec 32 := Scalar.addi v1017 c8_i32_228
  let v1055 : Index := Scalar.indexCast v1018
  let c48_232 : Index := 48#32
  ![v1055.toNat, 48]

def k0_chk78 (v1059 : IVec S16 32) : Prop :=
  (∀ a x, ((![v1059] : Fin 1 → IVec S16 32) a x).toNat < S48.size a)
theorem k0_idx78_inb : ∀ (v1059 : IVec S16 32) (k0_hw78 : k0_chk78 v1059), ∀ a x, ((![v1059] : Fin 1 → IVec S16 32) a x).toNat < S48.size a := fun v1059 k0_hw78 => k0_hw78

def k0_chk79 (v1062 : IVec S16 32) : Prop :=
  (∀ a x, ((![v1062] : Fin 1 → IVec S16 32) a x).toNat < S48.size a)
theorem k0_idx79_inb : ∀ (v1062 : IVec S16 32) (k0_hw79 : k0_chk79 v1062), ∀ a x, ((![v1062] : Fin 1 → IVec S16 32) a x).toNat < S48.size a := fun v1062 k0_hw79 => k0_hw79

def k0_chk80 (v1065 : IVec S16 32) : Prop :=
  (∀ a x, ((![v1065] : Fin 1 → IVec S16 32) a x).toNat < S48.size a)
theorem k0_idx80_inb : ∀ (v1065 : IVec S16 32) (k0_hw80 : k0_chk80 v1065), ∀ a x, ((![v1065] : Fin 1 → IVec S16 32) a x).toNat < S48.size a := fun v1065 k0_hw80 => k0_hw80
def k0_off38 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_236 : BitVec 32 := 16#32
  let v1067 : BitVec 32 := Scalar.muli arg9 c16_i32_236
  let c9_i32_237 : BitVec 32 := 9#32
  let v1068 : BitVec 32 := Scalar.addi v1067 c9_i32_237
  let v1075 : Index := Scalar.indexCast v1068
  let c0_238 : Index := 0#32
  ![v1075.toNat, 0]
def k0_off39 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_236 : BitVec 32 := 16#32
  let v1067 : BitVec 32 := Scalar.muli arg9 c16_i32_236
  let c9_i32_237 : BitVec 32 := 9#32
  let v1068 : BitVec 32 := Scalar.addi v1067 c9_i32_237
  let v1085 : Index := Scalar.indexCast v1068
  let c16_239 : Index := 16#32
  ![v1085.toNat, 16]
def k0_off40 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_236 : BitVec 32 := 16#32
  let v1067 : BitVec 32 := Scalar.muli arg9 c16_i32_236
  let c9_i32_237 : BitVec 32 := 9#32
  let v1068 : BitVec 32 := Scalar.addi v1067 c9_i32_237
  let v1095 : Index := Scalar.indexCast v1068
  let c32_240 : Index := 32#32
  ![v1095.toNat, 32]
def k0_off41 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_236 : BitVec 32 := 16#32
  let v1067 : BitVec 32 := Scalar.muli arg9 c16_i32_236
  let c9_i32_237 : BitVec 32 := 9#32
  let v1068 : BitVec 32 := Scalar.addi v1067 c9_i32_237
  let v1105 : Index := Scalar.indexCast v1068
  let c48_241 : Index := 48#32
  ![v1105.toNat, 48]

def k0_chk81 (v1109 : IVec S16 32) : Prop :=
  (∀ a x, ((![v1109] : Fin 1 → IVec S16 32) a x).toNat < S48.size a)
theorem k0_idx81_inb : ∀ (v1109 : IVec S16 32) (k0_hw81 : k0_chk81 v1109), ∀ a x, ((![v1109] : Fin 1 → IVec S16 32) a x).toNat < S48.size a := fun v1109 k0_hw81 => k0_hw81

def k0_chk82 (v1112 : IVec S16 32) : Prop :=
  (∀ a x, ((![v1112] : Fin 1 → IVec S16 32) a x).toNat < S48.size a)
theorem k0_idx82_inb : ∀ (v1112 : IVec S16 32) (k0_hw82 : k0_chk82 v1112), ∀ a x, ((![v1112] : Fin 1 → IVec S16 32) a x).toNat < S48.size a := fun v1112 k0_hw82 => k0_hw82

def k0_chk83 (v1115 : IVec S16 32) : Prop :=
  (∀ a x, ((![v1115] : Fin 1 → IVec S16 32) a x).toNat < S48.size a)
theorem k0_idx83_inb : ∀ (v1115 : IVec S16 32) (k0_hw83 : k0_chk83 v1115), ∀ a x, ((![v1115] : Fin 1 → IVec S16 32) a x).toNat < S48.size a := fun v1115 k0_hw83 => k0_hw83
def k0_off42 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_245 : BitVec 32 := 16#32
  let v1117 : BitVec 32 := Scalar.muli arg9 c16_i32_245
  let c10_i32_246 : BitVec 32 := 10#32
  let v1118 : BitVec 32 := Scalar.addi v1117 c10_i32_246
  let v1125 : Index := Scalar.indexCast v1118
  let c0_247 : Index := 0#32
  ![v1125.toNat, 0]
def k0_off43 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_245 : BitVec 32 := 16#32
  let v1117 : BitVec 32 := Scalar.muli arg9 c16_i32_245
  let c10_i32_246 : BitVec 32 := 10#32
  let v1118 : BitVec 32 := Scalar.addi v1117 c10_i32_246
  let v1135 : Index := Scalar.indexCast v1118
  let c16_248 : Index := 16#32
  ![v1135.toNat, 16]
def k0_off44 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_245 : BitVec 32 := 16#32
  let v1117 : BitVec 32 := Scalar.muli arg9 c16_i32_245
  let c10_i32_246 : BitVec 32 := 10#32
  let v1118 : BitVec 32 := Scalar.addi v1117 c10_i32_246
  let v1145 : Index := Scalar.indexCast v1118
  let c32_249 : Index := 32#32
  ![v1145.toNat, 32]
def k0_off45 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_245 : BitVec 32 := 16#32
  let v1117 : BitVec 32 := Scalar.muli arg9 c16_i32_245
  let c10_i32_246 : BitVec 32 := 10#32
  let v1118 : BitVec 32 := Scalar.addi v1117 c10_i32_246
  let v1155 : Index := Scalar.indexCast v1118
  let c48_250 : Index := 48#32
  ![v1155.toNat, 48]

def k0_chk84 (v1159 : IVec S16 32) : Prop :=
  (∀ a x, ((![v1159] : Fin 1 → IVec S16 32) a x).toNat < S48.size a)
theorem k0_idx84_inb : ∀ (v1159 : IVec S16 32) (k0_hw84 : k0_chk84 v1159), ∀ a x, ((![v1159] : Fin 1 → IVec S16 32) a x).toNat < S48.size a := fun v1159 k0_hw84 => k0_hw84

def k0_chk85 (v1162 : IVec S16 32) : Prop :=
  (∀ a x, ((![v1162] : Fin 1 → IVec S16 32) a x).toNat < S48.size a)
theorem k0_idx85_inb : ∀ (v1162 : IVec S16 32) (k0_hw85 : k0_chk85 v1162), ∀ a x, ((![v1162] : Fin 1 → IVec S16 32) a x).toNat < S48.size a := fun v1162 k0_hw85 => k0_hw85

def k0_chk86 (v1165 : IVec S16 32) : Prop :=
  (∀ a x, ((![v1165] : Fin 1 → IVec S16 32) a x).toNat < S48.size a)
theorem k0_idx86_inb : ∀ (v1165 : IVec S16 32) (k0_hw86 : k0_chk86 v1165), ∀ a x, ((![v1165] : Fin 1 → IVec S16 32) a x).toNat < S48.size a := fun v1165 k0_hw86 => k0_hw86
def k0_off46 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_254 : BitVec 32 := 16#32
  let v1167 : BitVec 32 := Scalar.muli arg9 c16_i32_254
  let c11_i32_255 : BitVec 32 := 11#32
  let v1168 : BitVec 32 := Scalar.addi v1167 c11_i32_255
  let v1175 : Index := Scalar.indexCast v1168
  let c0_256 : Index := 0#32
  ![v1175.toNat, 0]
def k0_off47 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_254 : BitVec 32 := 16#32
  let v1167 : BitVec 32 := Scalar.muli arg9 c16_i32_254
  let c11_i32_255 : BitVec 32 := 11#32
  let v1168 : BitVec 32 := Scalar.addi v1167 c11_i32_255
  let v1185 : Index := Scalar.indexCast v1168
  let c16_257 : Index := 16#32
  ![v1185.toNat, 16]
def k0_off48 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_254 : BitVec 32 := 16#32
  let v1167 : BitVec 32 := Scalar.muli arg9 c16_i32_254
  let c11_i32_255 : BitVec 32 := 11#32
  let v1168 : BitVec 32 := Scalar.addi v1167 c11_i32_255
  let v1195 : Index := Scalar.indexCast v1168
  let c32_258 : Index := 32#32
  ![v1195.toNat, 32]
def k0_off49 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_254 : BitVec 32 := 16#32
  let v1167 : BitVec 32 := Scalar.muli arg9 c16_i32_254
  let c11_i32_255 : BitVec 32 := 11#32
  let v1168 : BitVec 32 := Scalar.addi v1167 c11_i32_255
  let v1205 : Index := Scalar.indexCast v1168
  let c48_259 : Index := 48#32
  ![v1205.toNat, 48]

def k0_chk87 (v1209 : IVec S16 32) : Prop :=
  (∀ a x, ((![v1209] : Fin 1 → IVec S16 32) a x).toNat < S48.size a)
theorem k0_idx87_inb : ∀ (v1209 : IVec S16 32) (k0_hw87 : k0_chk87 v1209), ∀ a x, ((![v1209] : Fin 1 → IVec S16 32) a x).toNat < S48.size a := fun v1209 k0_hw87 => k0_hw87

def k0_chk88 (v1212 : IVec S16 32) : Prop :=
  (∀ a x, ((![v1212] : Fin 1 → IVec S16 32) a x).toNat < S48.size a)
theorem k0_idx88_inb : ∀ (v1212 : IVec S16 32) (k0_hw88 : k0_chk88 v1212), ∀ a x, ((![v1212] : Fin 1 → IVec S16 32) a x).toNat < S48.size a := fun v1212 k0_hw88 => k0_hw88

def k0_chk89 (v1215 : IVec S16 32) : Prop :=
  (∀ a x, ((![v1215] : Fin 1 → IVec S16 32) a x).toNat < S48.size a)
theorem k0_idx89_inb : ∀ (v1215 : IVec S16 32) (k0_hw89 : k0_chk89 v1215), ∀ a x, ((![v1215] : Fin 1 → IVec S16 32) a x).toNat < S48.size a := fun v1215 k0_hw89 => k0_hw89
def k0_off50 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_263 : BitVec 32 := 16#32
  let v1217 : BitVec 32 := Scalar.muli arg9 c16_i32_263
  let c12_i32_264 : BitVec 32 := 12#32
  let v1218 : BitVec 32 := Scalar.addi v1217 c12_i32_264
  let v1225 : Index := Scalar.indexCast v1218
  let c0_265 : Index := 0#32
  ![v1225.toNat, 0]
def k0_off51 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_263 : BitVec 32 := 16#32
  let v1217 : BitVec 32 := Scalar.muli arg9 c16_i32_263
  let c12_i32_264 : BitVec 32 := 12#32
  let v1218 : BitVec 32 := Scalar.addi v1217 c12_i32_264
  let v1235 : Index := Scalar.indexCast v1218
  let c16_266 : Index := 16#32
  ![v1235.toNat, 16]
def k0_off52 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_263 : BitVec 32 := 16#32
  let v1217 : BitVec 32 := Scalar.muli arg9 c16_i32_263
  let c12_i32_264 : BitVec 32 := 12#32
  let v1218 : BitVec 32 := Scalar.addi v1217 c12_i32_264
  let v1245 : Index := Scalar.indexCast v1218
  let c32_267 : Index := 32#32
  ![v1245.toNat, 32]
def k0_off53 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_263 : BitVec 32 := 16#32
  let v1217 : BitVec 32 := Scalar.muli arg9 c16_i32_263
  let c12_i32_264 : BitVec 32 := 12#32
  let v1218 : BitVec 32 := Scalar.addi v1217 c12_i32_264
  let v1255 : Index := Scalar.indexCast v1218
  let c48_268 : Index := 48#32
  ![v1255.toNat, 48]

def k0_chk90 (v1259 : IVec S16 32) : Prop :=
  (∀ a x, ((![v1259] : Fin 1 → IVec S16 32) a x).toNat < S48.size a)
theorem k0_idx90_inb : ∀ (v1259 : IVec S16 32) (k0_hw90 : k0_chk90 v1259), ∀ a x, ((![v1259] : Fin 1 → IVec S16 32) a x).toNat < S48.size a := fun v1259 k0_hw90 => k0_hw90

def k0_chk91 (v1262 : IVec S16 32) : Prop :=
  (∀ a x, ((![v1262] : Fin 1 → IVec S16 32) a x).toNat < S48.size a)
theorem k0_idx91_inb : ∀ (v1262 : IVec S16 32) (k0_hw91 : k0_chk91 v1262), ∀ a x, ((![v1262] : Fin 1 → IVec S16 32) a x).toNat < S48.size a := fun v1262 k0_hw91 => k0_hw91

def k0_chk92 (v1265 : IVec S16 32) : Prop :=
  (∀ a x, ((![v1265] : Fin 1 → IVec S16 32) a x).toNat < S48.size a)
theorem k0_idx92_inb : ∀ (v1265 : IVec S16 32) (k0_hw92 : k0_chk92 v1265), ∀ a x, ((![v1265] : Fin 1 → IVec S16 32) a x).toNat < S48.size a := fun v1265 k0_hw92 => k0_hw92
def k0_off54 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_272 : BitVec 32 := 16#32
  let v1267 : BitVec 32 := Scalar.muli arg9 c16_i32_272
  let c13_i32_273 : BitVec 32 := 13#32
  let v1268 : BitVec 32 := Scalar.addi v1267 c13_i32_273
  let v1275 : Index := Scalar.indexCast v1268
  let c0_274 : Index := 0#32
  ![v1275.toNat, 0]
def k0_off55 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_272 : BitVec 32 := 16#32
  let v1267 : BitVec 32 := Scalar.muli arg9 c16_i32_272
  let c13_i32_273 : BitVec 32 := 13#32
  let v1268 : BitVec 32 := Scalar.addi v1267 c13_i32_273
  let v1285 : Index := Scalar.indexCast v1268
  let c16_275 : Index := 16#32
  ![v1285.toNat, 16]
def k0_off56 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_272 : BitVec 32 := 16#32
  let v1267 : BitVec 32 := Scalar.muli arg9 c16_i32_272
  let c13_i32_273 : BitVec 32 := 13#32
  let v1268 : BitVec 32 := Scalar.addi v1267 c13_i32_273
  let v1295 : Index := Scalar.indexCast v1268
  let c32_276 : Index := 32#32
  ![v1295.toNat, 32]
def k0_off57 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_272 : BitVec 32 := 16#32
  let v1267 : BitVec 32 := Scalar.muli arg9 c16_i32_272
  let c13_i32_273 : BitVec 32 := 13#32
  let v1268 : BitVec 32 := Scalar.addi v1267 c13_i32_273
  let v1305 : Index := Scalar.indexCast v1268
  let c48_277 : Index := 48#32
  ![v1305.toNat, 48]

def k0_chk93 (v1309 : IVec S16 32) : Prop :=
  (∀ a x, ((![v1309] : Fin 1 → IVec S16 32) a x).toNat < S48.size a)
theorem k0_idx93_inb : ∀ (v1309 : IVec S16 32) (k0_hw93 : k0_chk93 v1309), ∀ a x, ((![v1309] : Fin 1 → IVec S16 32) a x).toNat < S48.size a := fun v1309 k0_hw93 => k0_hw93

def k0_chk94 (v1312 : IVec S16 32) : Prop :=
  (∀ a x, ((![v1312] : Fin 1 → IVec S16 32) a x).toNat < S48.size a)
theorem k0_idx94_inb : ∀ (v1312 : IVec S16 32) (k0_hw94 : k0_chk94 v1312), ∀ a x, ((![v1312] : Fin 1 → IVec S16 32) a x).toNat < S48.size a := fun v1312 k0_hw94 => k0_hw94

def k0_chk95 (v1315 : IVec S16 32) : Prop :=
  (∀ a x, ((![v1315] : Fin 1 → IVec S16 32) a x).toNat < S48.size a)
theorem k0_idx95_inb : ∀ (v1315 : IVec S16 32) (k0_hw95 : k0_chk95 v1315), ∀ a x, ((![v1315] : Fin 1 → IVec S16 32) a x).toNat < S48.size a := fun v1315 k0_hw95 => k0_hw95
def k0_off58 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_281 : BitVec 32 := 16#32
  let v1317 : BitVec 32 := Scalar.muli arg9 c16_i32_281
  let c14_i32_282 : BitVec 32 := 14#32
  let v1318 : BitVec 32 := Scalar.addi v1317 c14_i32_282
  let v1325 : Index := Scalar.indexCast v1318
  let c0_283 : Index := 0#32
  ![v1325.toNat, 0]
def k0_off59 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_281 : BitVec 32 := 16#32
  let v1317 : BitVec 32 := Scalar.muli arg9 c16_i32_281
  let c14_i32_282 : BitVec 32 := 14#32
  let v1318 : BitVec 32 := Scalar.addi v1317 c14_i32_282
  let v1335 : Index := Scalar.indexCast v1318
  let c16_284 : Index := 16#32
  ![v1335.toNat, 16]
def k0_off60 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_281 : BitVec 32 := 16#32
  let v1317 : BitVec 32 := Scalar.muli arg9 c16_i32_281
  let c14_i32_282 : BitVec 32 := 14#32
  let v1318 : BitVec 32 := Scalar.addi v1317 c14_i32_282
  let v1345 : Index := Scalar.indexCast v1318
  let c32_285 : Index := 32#32
  ![v1345.toNat, 32]
def k0_off61 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_281 : BitVec 32 := 16#32
  let v1317 : BitVec 32 := Scalar.muli arg9 c16_i32_281
  let c14_i32_282 : BitVec 32 := 14#32
  let v1318 : BitVec 32 := Scalar.addi v1317 c14_i32_282
  let v1355 : Index := Scalar.indexCast v1318
  let c48_286 : Index := 48#32
  ![v1355.toNat, 48]

def k0_chk96 (v1359 : IVec S16 32) : Prop :=
  (∀ a x, ((![v1359] : Fin 1 → IVec S16 32) a x).toNat < S48.size a)
theorem k0_idx96_inb : ∀ (v1359 : IVec S16 32) (k0_hw96 : k0_chk96 v1359), ∀ a x, ((![v1359] : Fin 1 → IVec S16 32) a x).toNat < S48.size a := fun v1359 k0_hw96 => k0_hw96

def k0_chk97 (v1362 : IVec S16 32) : Prop :=
  (∀ a x, ((![v1362] : Fin 1 → IVec S16 32) a x).toNat < S48.size a)
theorem k0_idx97_inb : ∀ (v1362 : IVec S16 32) (k0_hw97 : k0_chk97 v1362), ∀ a x, ((![v1362] : Fin 1 → IVec S16 32) a x).toNat < S48.size a := fun v1362 k0_hw97 => k0_hw97

def k0_chk98 (v1365 : IVec S16 32) : Prop :=
  (∀ a x, ((![v1365] : Fin 1 → IVec S16 32) a x).toNat < S48.size a)
theorem k0_idx98_inb : ∀ (v1365 : IVec S16 32) (k0_hw98 : k0_chk98 v1365), ∀ a x, ((![v1365] : Fin 1 → IVec S16 32) a x).toNat < S48.size a := fun v1365 k0_hw98 => k0_hw98
def k0_off62 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_290 : BitVec 32 := 16#32
  let v1367 : BitVec 32 := Scalar.muli arg9 c16_i32_290
  let c15_i32_291 : BitVec 32 := 15#32
  let v1368 : BitVec 32 := Scalar.addi v1367 c15_i32_291
  let v1375 : Index := Scalar.indexCast v1368
  let c0_292 : Index := 0#32
  ![v1375.toNat, 0]
def k0_off63 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_290 : BitVec 32 := 16#32
  let v1367 : BitVec 32 := Scalar.muli arg9 c16_i32_290
  let c15_i32_291 : BitVec 32 := 15#32
  let v1368 : BitVec 32 := Scalar.addi v1367 c15_i32_291
  let v1385 : Index := Scalar.indexCast v1368
  let c16_293 : Index := 16#32
  ![v1385.toNat, 16]
def k0_off64 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_290 : BitVec 32 := 16#32
  let v1367 : BitVec 32 := Scalar.muli arg9 c16_i32_290
  let c15_i32_291 : BitVec 32 := 15#32
  let v1368 : BitVec 32 := Scalar.addi v1367 c15_i32_291
  let v1395 : Index := Scalar.indexCast v1368
  let c32_294 : Index := 32#32
  ![v1395.toNat, 32]
def k0_off65 (k0_t1 : Fin k0_t1_loop.trips) : Fin 2 → Nat :=
  let c0_i32_37 : BitVec 32 := 0#32
  let c1_i32_38 : BitVec 32 := 1#32
  let arg9 : BitVec 32 := Scf.iv c0_i32_37 c1_i32_38 k0_t1
  let c16_i32_290 : BitVec 32 := 16#32
  let v1367 : BitVec 32 := Scalar.muli arg9 c16_i32_290
  let c15_i32_291 : BitVec 32 := 15#32
  let v1368 : BitVec 32 := Scalar.addi v1367 c15_i32_291
  let v1405 : Index := Scalar.indexCast v1368
  let c48_295 : Index := 48#32
  ![v1405.toNat, 48]
def k0_off66 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_40_r2 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_l" => some ((50⁻¹ : ℝ) : EReal)
  | _ => none
-- ==== ReferenceIdeal.lean ====
abbrev S16384 : Shape := ⟨1, ![16384]⟩
abbrev S16384x50 : Shape := ⟨2, ![16384, 50]⟩
abbrev S4x64 : Shape := ⟨2, ![4, 64]⟩
abbrev S64x2 : Shape := ⟨2, ![64, 2]⟩
abbrev S64 : Shape := ⟨1, ![64]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x64 : Shape := ⟨3, ![16384, 50, 64]⟩
abbrev S16384x64 : Shape := ⟨2, ![16384, 64]⟩

abbrev nBuf : Space → Nat
  | .hbm => 34
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .f32⟩
  | .hbm, ⟨2, _⟩ => ⟨S16384x50, .i32⟩
  | .hbm, ⟨3, _⟩ => ⟨S4x64, .f32⟩
  | .hbm, ⟨4, _⟩ => ⟨S64x2, .f32⟩
  | .hbm, ⟨5, _⟩ => ⟨S64, .f32⟩
  | .hbm, ⟨6, _⟩ => ⟨S_, .i32⟩
  | .hbm, ⟨7, _⟩ => ⟨S16384x50, .i32⟩
  | .hbm, ⟨8, _⟩ => ⟨S16384x50, .i1⟩
  | .hbm, ⟨9, _⟩ => ⟨S_, .i32⟩
  | .hbm, ⟨10, _⟩ => ⟨S16384x50, .i32⟩
  | .hbm, ⟨11, _⟩ => ⟨S16384x50, .i32⟩
  | .hbm, ⟨12, _⟩ => ⟨S16384x50, .i32⟩
  | .hbm, ⟨13, _⟩ => ⟨S16384x50x1, .i32⟩
  | .hbm, ⟨14, _⟩ => ⟨S1, .i32⟩
  | .hbm, ⟨15, _⟩ => ⟨S_, .i32⟩
  | .hbm, ⟨16, _⟩ => ⟨S16384x50x1, .i32⟩
  | .hbm, ⟨17, _⟩ => ⟨S16384x50x1, .i1⟩
  | .hbm, ⟨18, _⟩ => ⟨S1x1x1, .i32⟩
  | .hbm, ⟨19, _⟩ => ⟨S16384x50x1, .i32⟩
  | .hbm, ⟨20, _⟩ => ⟨S16384x50x1, .i1⟩
  | .hbm, ⟨21, _⟩ => ⟨S16384x50x1, .i1⟩
  | .hbm, ⟨22, _⟩ => ⟨S_, .i1⟩
  | .hbm, ⟨23, _⟩ => ⟨S16384x50, .i1⟩
  | .hbm, ⟨24, _⟩ => ⟨S16384x50x64, .f32⟩
  | .hbm, ⟨25, _⟩ => ⟨S16384x50x64, .i1⟩
  | .hbm, ⟨26, _⟩ => ⟨S_, .f32⟩
  | .hbm, ⟨27, _⟩ => ⟨S16384x50x64, .f32⟩
  | .hbm, ⟨28, _⟩ => ⟨S16384x50x64, .f32⟩
  | .hbm, ⟨29, _⟩ => ⟨S_, .f32⟩
  | .hbm, ⟨30, _⟩ => ⟨S16384x64, .f32⟩
  | .hbm, ⟨31, _⟩ => ⟨S_, .f32⟩
  | .hbm, ⟨32, _⟩ => ⟨S16384x64, .f32⟩
  | .hbm, ⟨33, _⟩ => ⟨S16384x64, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩

abbrev nD : Nat := 1
abbrev τ : Topo := Topo.v7x

variable {F : FTy → Type} [FloatOps F]
-- ==== Proof.Steps.lean ====
/-
  One vector subcore's four scratch buffers, and what a stretch of its program does to them.

  `Runs C O p a C' O'` says: holding the token scratch at `T`, the table scratch at `E`, the count scratch at `C` and the
  output scratch at `O`, the program `p` terminates with the value `a`, the first two unchanged and the last two holding
  `C'` and `O'`. The rules below take such a statement through a gather, a load, a store and a bind; the values a gather
  reads are given as functions of the scratch (`tk`, `cv`), so that the counting done between the gathers folds into the
  recursive definitions `sb0`, `sb1`, `sb3` by unfolding.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] [Named F]

/-! ## The algebra the proof runs in, and a subcore's scratch -/

abbrev UH : Type := URounds (GSem nD τ sig) ℕ
abbrev UU : Type := UH × Counters

local notation "𝕄" => MT nD τ sig (HIx 1) (Elt F) ℕ UU ℕ

abbrev 𝒱₀ : Variants := Variants.none

/-- The thread of device `d` that runs the kernel at grid point `L`. -/
abbrev tile (d : Dev nD) (L : grid0.Coords) : Thread nD τ := (d, .scVector ((L 0).castLE hcore0) ((L 1).castLE hsub0))

abbrev mT : Memref sig .scVector .vmem S512x50 .i32 := Memref.whole cc0_scratch0
abbrev mE : Memref sig .scVector .vmem S4x64 .f32 := Memref.whole cc0_scratch1
abbrev mC : Memref sig .scVector .vmem S48 .f32 := Memref.whole cc0_scratch2
abbrev mO : Memref sig .scVector .vmem S512x64 .f32 := Memref.whole cc0_scratch3

/-- Programs of the subcore at `L`. -/
abbrev TProg (F : FTy → Type) (L : grid0.Coords) (α : Type) : Type 1 :=
  Prog (TpuEff nD τ sig (Elt F) Λ₀ (.scVector ((L 0).castLE hcore0) ((L 1).castLE hsub0))) α

/-- The scratch held whole, at given contents. -/
def pts (d : Dev nD) (L : grid0.Coords) (T : Vec F S512x50 .i32) (E : Vec F S4x64 .f32) (C : Vec F S48 .f32) (O : Vec F S512x64 .f32) :
    sProp 𝕄 :=
  iprop((mT.view.loc (tile d L) ↦{fullShare} T) ∗ (mE.view.loc (tile d L) ↦{fullShare} E)
    ∗ (mC.view.loc (tile d L) ↦{fullShare} C) ∗ (mO.view.loc (tile d L) ↦{fullShare} O))

/-- `p` terminates with `a`, taking the count and output scratch from `C`, `O` to `C'`, `O'`. -/
def Runs (d : Dev nD) {L : grid0.Coords} (T : Vec F S512x50 .i32) (E : Vec F S4x64 .f32) {α : Type} (C : Vec F S48 .f32) (O : Vec F S512x64 .f32)
    (p : TProg F L α) (a : α) (C' : Vec F S48 .f32) (O' : Vec F S512x64 .f32) : Prop :=
  ∀ Φ : α → sProp 𝕄, iprop(pts d L T E C O ∗ (pts d L T E C' O' -∗ Φ a))
    ⊢ wp frame (wpE (defs₀ (F := F)) 𝒱₀ (tile d L) none) Set.univ p Φ

/-! ## The values a trip computes -/

def ixT (r c : ℕ) : S512x50.Idx
  | 0 => ⟨r % 512, Nat.mod_lt _ (by decide)⟩
  | 1 => ⟨c % 50, Nat.mod_lt _ (by decide)⟩
def ixE (r c : ℕ) : S4x64.Idx
  | 0 => ⟨r % 4, Nat.mod_lt _ (by decide)⟩
  | 1 => ⟨c % 64, Nat.mod_lt _ (by decide)⟩
def ixC (n : ℕ) : S48.Idx
  | 0 => ⟨n % 48, Nat.mod_lt _ (by decide)⟩
def ix16 (n : ℕ) : S16.Idx
  | 0 => ⟨n % 16, Nat.mod_lt _ (by decide)⟩

/-- The row indices of trip `t`'s sixteen batch rows. -/
def rowIdx (t : Fin k0_t1_loop.trips) : IVec S16 32 :=
  k0_pay7 (iota .scVector S16 32 [0] iota_S16_d0_w32_scVector) 0#32 1#32 t

/-- Token `n` of each of trip `t`'s sixteen rows. -/
def tk (T : Vec F S512x50 .i32) (t n : ℕ) : IVec S16 32 := fun x => T (ixT (16 * t + (x 0).val) n)

/-- The sums, over the first `n` tokens, of the low bit, of the next bit and of their conjunction. -/
def sb0 (T : Vec F S512x50 .i32) (t : ℕ) : ℕ → IVec S16 32
  | 0 => broadcast S16 0#32
  | n + 1 => addi (sb0 T t n) (andi (tk T t n) (broadcast S16 1#32))
def sb1 (T : Vec F S512x50 .i32) (t : ℕ) : ℕ → IVec S16 32
  | 0 => broadcast S16 0#32
  | n + 1 => addi (sb1 T t n) (shrsi (tk T t n) (broadcast S16 1#32))
def sb3 (T : Vec F S512x50 .i32) (t : ℕ) : ℕ → IVec S16 32
  | 0 => broadcast S16 0#32
  | n + 1 => addi (sb3 T t n) (andi (andi (tk T t n) (broadcast S16 1#32)) (shrsi (tk T t n) (broadcast S16 1#32)))

/-- How often each of the sixteen rows names table row one, two, three. -/
def c1v (T : Vec F S512x50 .i32) (t : ℕ) : FVec F S16 .f32 := sitofp .f32 (subi (sb0 T t 50) (sb3 T t 50))
def c2v (T : Vec F S512x50 .i32) (t : ℕ) : FVec F S16 .f32 := sitofp .f32 (subi (sb1 T t 50) (sb3 T t 50))
def c3v (T : Vec F S512x50 .i32) (t : ℕ) : FVec F S16 .f32 := sitofp .f32 (sb3 T t 50)

/-- The count scratch after trip `t`'s three stores. -/
def cfin (T : Vec F S512x50 .i32) (t : ℕ) : Vec F S48 .f32 := fun i =>
  if (i 0).val < 16 then c1v T t (ix16 (i 0).val)
  else if (i 0).val < 32 then c2v T t (ix16 ((i 0).val - 16)) else c3v T t (ix16 ((i 0).val - 32))

/-- Entry `n` of the count scratch, in every lane. -/
def cn (C : Vec F S48 .f32) (n : ℕ) : Vec F S16 .f32 := fun _ => C (ixC n)

/-- Columns `16 j …` of table row `k`, as loaded. -/
def er (E : Vec F S4x64 .f32) (k j : ℕ) : Vec F S1x16 .f32 := fun x => E (ixE k (16 * j + (x 1).val))
def p0 (E : Vec F S4x64 .f32) (j : ℕ) : FVec F S16 .f32 := shapeCast S16 (er E 0 j) shapeCasts_S1x16_S16

/-- The reciprocal of the number of tokens. -/
def invL : F .f32 := Named.named κ "inv_l" 0x3CA3D70A#32

/-- The scaled difference of table rows `k` and zero. -/
def dk (E : Vec F S4x64 .f32) (k j : ℕ) : FVec F S16 .f32 :=
  mulf (subf (shapeCast S16 (er E k j) shapeCasts_S1x16_S16) (p0 E j)) (broadcast S16 invL)

/-- Columns `16 j …` of trip `t`'s output row `e`. -/
def ov (T : Vec F S512x50 .i32) (E : Vec F S4x64 .f32) (t e j : ℕ) : FVec F S16 .f32 :=
  addf (addf (addf (p0 E j) (mulf (cn (cfin T t) e) (dk E 1 j))) (mulf (cn (cfin T t) (16 + e)) (dk E 2 j)))
    (mulf (cn (cfin T t) (32 + e)) (dk E 3 j))

/-- The output scratch with its first `K` sixteen-lane groups written. -/
def full (T : Vec F S512x50 .i32) (E : Vec F S4x64 .f32) (O : Vec F S512x64 .f32) (K : ℕ) : Vec F S512x64 .f32 := fun i =>
  if 4 * (i 0).val + (i 1).val / 16 < K then ov T E ((i 0).val / 16) ((i 0).val % 16) ((i 1).val / 16) (ix16 ((i 1).val % 16)) else O i

/-! ## The indices are inside -/

theorem trips_eq : k0_t1_loop.trips = 32 := by decide +kernel
theorem trip_lt (t : Fin k0_t1_loop.trips) : t.val < 32 := lt_of_lt_of_eq t.isLt trips_eq

theorem rowIdx_toNat (t : Fin k0_t1_loop.trips) (x : S16.Idx) : (rowIdx t x).toNat = 16 * t.val + (x 0).val := by
  have ht := trip_lt t
  have hx : (x 0).val < 16 := (x 0).isLt
  show (((0#32 + BitVec.ofNat 32 t.val * 1#32) * 16#32) + iota .scVector S16 32 [0] iota_S16_d0_w32_scVector x).toNat = _
  rw [iota_single_apply]
  simp only [BitVec.toNat_add, BitVec.toNat_mul, BitVec.toNat_ofNat]
  omega

theorem inT (t : Fin k0_t1_loop.trips) {n : ℕ} (hn : n < 50) :
    ∀ a x, ((![rowIdx t, broadcast S16 (BitVec.ofNat 32 n)] : Fin 2 → IVec S16 32) a x).toNat < S512x50.size a := by
  have ht := trip_lt t
  intro a x
  fin_cases a
  · have hx : (x 0).val < 16 := (x 0).isLt
    show (rowIdx t x).toNat < 512
    rw [rowIdx_toNat]; omega
  · show (BitVec.ofNat 32 n).toNat < 50
    rw [BitVec.toNat_ofNat]; omega

theorem inC {n : ℕ} (hn : n < 48) :
    ∀ a x, ((![broadcast S16 (BitVec.ofNat 32 n)] : Fin 1 → IVec S16 32) a x).toNat < S48.size a := by
  intro a x
  fin_cases a
  show (BitVec.ofNat 32 n).toNat < 48
  rw [BitVec.toNat_ofNat]; omega

theorem loadIdx_tk (T : Vec F S512x50 .i32) (t : Fin k0_t1_loop.trips) {n : ℕ} (hn : n < 50)
    (h : ∀ a x, ((![rowIdx t, broadcast S16 (BitVec.ofNat 32 n)] : Fin 2 → IVec S16 32) a x).toNat < S512x50.size a) :
    (loadIdx (F := F) (e := .i32) T ![rowIdx t, broadcast S16 (BitVec.ofNat 32 n)] h : Vec F S16 .i32) = tk T t n := by
  funext x
  show T _ = T _
  congr 1
  have ht := trip_lt t
  have hx : (x 0).val < 16 := (x 0).isLt
  funext a
  fin_cases a
  · apply Fin.ext
    show (rowIdx t x).toNat = (16 * t.val + (x 0).val) % 512
    rw [rowIdx_toNat]; omega
  · apply Fin.ext
    show (BitVec.ofNat 32 n).toNat = n % 50
    rw [BitVec.toNat_ofNat]; omega

theorem loadIdx_cn (C : Vec F S48 .f32) {n : ℕ} (hn : n < 48)
    (h : ∀ a x, ((![broadcast S16 (BitVec.ofNat 32 n)] : Fin 1 → IVec S16 32) a x).toNat < S48.size a) :
    (loadIdx (F := F) (e := .f32) C ![broadcast S16 (BitVec.ofNat 32 n)] h : Vec F S16 .f32) = cn C n := by
  funext x
  show C _ = C _
  congr 1
  funext a
  fin_cases a
  apply Fin.ext
  show (BitVec.ofNat 32 n).toNat = n % 48
  rw [BitVec.toNat_ofNat]; omega

theorem readAt_er (E : Vec F S4x64 .f32) {k j : ℕ} (hk : k < 4) (hj : j < 4) {inb} :
    mE.view.readAt (Elt F) (Rect.unit (s := S4x64) ![k, 16 * j] S1x16.size inb).toLoadRect E = er E k j := by
  funext x
  show E _ = E _
  congr 1
  have h0 : (x 0).val = 0 := by have := (x 0).isLt; change (x 0).val < 1 at this; omega
  have h1 : (x 1).val < 16 := (x 1).isLt
  funext a
  fin_cases a
  · apply Fin.ext
    show k + 1 * (x 0).val = k % 4
    omega
  · apply Fin.ext
    show 16 * j + 1 * (x 1).val = (16 * j + (x 1).val) % 64
    omega

theorem write_full (T : Vec F S512x50 .i32) (E : Vec F S4x64 .f32) (O : Vec F S512x64 .f32) {t K : ℕ} (ht : t < 32) (hK : K < 64)
    {off : Fin 2 → ℕ} {inb : ∀ a, off a + S1x16.size a ≤ S512x64.size a} (hoff : off = ![16 * t + K / 4, 16 * (K % 4)]) :
    (mO.access (Rect.unit (s := S512x64) off S1x16.size inb)).write (Elt F) (full T E O (64 * t + K))
      (shapeCast S1x16 (ov T E t (K / 4) (K % 4)) shapeCasts_S16_S1x16) Finset.univ = full T E O (64 * t + (K + 1)) := by
  subst hoff
  refine (View.write_whole_slice_unit cc0_scratch3 _ _ inb _ _).trans ?_
  funext i
  have hi0 : (i 0).val < 512 := (i 0).isLt
  have hi1 : (i 1).val < 64 := (i 1).isLt
  unfold updateSlice
  split
  · next hin =>
    have h0 : 16 * t + K / 4 ≤ (i 0).val ∧ (i 0).val < 16 * t + K / 4 + 1 := hin 0
    have h1 : 16 * (K % 4) ≤ (i 1).val ∧ (i 1).val < 16 * (K % 4) + 16 := hin 1
    refine (shapeCast_addUnit_apply ![16] _ _ _).trans ?_
    have e0 : (i 0).val / 16 = t := by omega
    have e1 : (i 0).val % 16 = K / 4 := by omega
    have e2 : (i 1).val / 16 = K % 4 := by omega
    unfold full
    rw [if_pos (by omega), e0, e1, e2]
    congr 1
    funext a
    fin_cases a
    apply Fin.ext
    show (i 1).val - 16 * (K % 4) = (i 1).val % 16 % 16
    omega
  · next hout =>
    have hne : ¬ (4 * (i 0).val + (i 1).val / 16 = 64 * t + K) := by
      intro h
      apply hout
      intro a
      fin_cases a
      · show 16 * t + K / 4 ≤ (i 0).val ∧ (i 0).val < 16 * t + K / 4 + 1
        omega
      · show 16 * (K % 4) ≤ (i 1).val ∧ (i 1).val < 16 * (K % 4) + 16
        omega
    unfold full
    by_cases hlt : 4 * (i 0).val + (i 1).val / 16 < 64 * t + K
    · rw [if_pos hlt, if_pos (by omega)]
    · rw [if_neg hlt, if_neg (by omega)]

namespace Runs

variable {d : Dev nD} {L : grid0.Coords} {T : Vec F S512x50 .i32} {E : Vec F S4x64 .f32}
variable {C C' C'' : Vec F S48 .f32} {O O' O'' : Vec F S512x64 .f32} {α β : Type}

theorem ret (a : α) : Runs d T E (L := L) C O (pure a) a C O := by
  intro Φ
  rw [Prog.pure_eq_ret, wp_ret]
  iintro ⟨H, Hk⟩
  imodintro
  iapply Hk $$ H

theorem bind {p : TProg F L α} {k : α → TProg F L β} {a : α} {b : β}
    (hp : Runs d T E C O p a C' O') (hk : Runs d T E C' O' (k a) b C'' O'') : Runs d T E C O (p >>= k) b C'' O'' := by
  intro Φ
  rw [wp_bind]
  refine .trans ?_ (hp _)
  iintro ⟨H, Hk⟩
  isplitl [H]; · iexact H
  iintro H
  iapply (hk Φ) $$ [H Hk]
  isplitl [H]; · iexact H
  iexact Hk

/-- A load of the output scratch whose value is not used. -/
theorem loadO {r : LoadRect S512x64} {hl} {k : (r.shape.Idx → Elt F .f32) → TProg F L β} {b : β}
    (hk : ∀ v, Runs d T E C O (k v) b C' O') : Runs d T E C O (Prog.lift (.load mO r hl) >>= k) b C' O' := by
  intro Φ
  simp only [Prog.lift, Prog.bind_op, Prog.bind_ret]
  unfold pts
  iintro ⟨⟨HT, HE, HC, HO⟩, Hk⟩
  iapply (wp_load (defs := defs₀ (F := F)) 𝒱₀ (tile d L) none Set.univ (m := mO) (S := Finset.univ) (Finset.subset_univ _)) $$ HO
  iintro HO
  iapply (hk _ Φ)
  unfold pts
  isplitr [Hk]
  · isplitl [HT]; · iexact HT
    isplitl [HE]; · iexact HE
    isplitl [HC] <;> iassumption
  iexact Hk

/-- A load of the count scratch whose value is not used. -/
theorem loadC {r : LoadRect S48} {hl} {k : (r.shape.Idx → Elt F .f32) → TProg F L β} {b : β}
    (hk : ∀ v, Runs d T E C O (k v) b C' O') : Runs d T E C O (Prog.lift (.load mC r hl) >>= k) b C' O' := by
  intro Φ
  simp only [Prog.lift, Prog.bind_op, Prog.bind_ret]
  unfold pts
  iintro ⟨⟨HT, HE, HC, HO⟩, Hk⟩
  iapply (wp_load (defs := defs₀ (F := F)) 𝒱₀ (tile d L) none Set.univ (m := mC) (S := Finset.univ) (Finset.subset_univ _)) $$ HC
  iintro HC
  iapply (hk _ Φ)
  unfold pts
  isplitr [Hk]
  · isplitl [HT]; · iexact HT
    isplitl [HE]; · iexact HE
    isplitl [HC] <;> iassumption
  iexact Hk

/-- A load of sixteen columns of a table row. -/
theorem row (kk j : ℕ) {off : Fin 2 → ℕ} {inb} {hl} {k : Vec F S1x16 .f32 → TProg F L β} {b : β}
    (hoff : off = ![kk, 16 * j]) (hkk : kk < 4) (hj : j < 4)
    (hk : Runs d T E C O (k (er E kk j)) b C' O') :
    Runs d T E C O (Prog.lift (.load mE (Rect.unit (s := S4x64) off S1x16.size inb).toLoadRect hl) >>= k) b C' O' := by
  subst hoff
  intro Φ
  simp only [Prog.lift, Prog.bind_op, Prog.bind_ret]
  unfold pts
  iintro ⟨⟨HT, HE, HC, HO⟩, Hk⟩
  iapply (wp_load (defs := defs₀ (F := F)) 𝒱₀ (tile d L) none Set.univ (m := mE) (S := Finset.univ) (Finset.subset_univ _)) $$ HE
  iintro HE
  rw [readAt_er E hkk hj]
  iapply (hk Φ)
  unfold pts
  isplitr [Hk]
  · isplitl [HT]; · iexact HT
    isplitl [HE]; · iexact HE
    isplitl [HC] <;> iassumption
  iexact Hk

/-- A store into the count scratch. -/
theorem storeC {r : Rect S48} {w : r.shape.Idx → Elt F .f32} {hx hm} {k : PUnit → TProg F L β} {b : β}
    (hC : (mC.access r).write (Elt F) C w Finset.univ = C'') (hk : Runs d T E C'' O (k ⟨⟩) b C' O') :
    Runs d T E C O (Prog.lift (.store mC r w Finset.univ hx hm) >>= k) b C' O' := by
  subst hC
  intro Φ
  simp only [Prog.lift, Prog.bind_op, Prog.bind_ret]
  unfold pts
  iintro ⟨⟨HT, HE, HC, HO⟩, Hk⟩
  iapply (wp_store (defs := defs₀ (F := F)) 𝒱₀ (tile d L) none Set.univ (m := mC) (r := r) (w := w) (Mk := Finset.univ) (S := Finset.univ)
    (Finset.subset_univ _)) $$ HC
  iintro HC
  iapply (hk Φ)
  unfold pts
  isplitr [Hk]
  · isplitl [HT]; · iexact HT
    isplitl [HE]; · iexact HE
    isplitl [HC] <;> iassumption
  iexact Hk

/-- The store of the next sixteen-lane group of the output. -/
theorem out (K : ℕ) {O₀ : Vec F S512x64 .f32} {t : Fin k0_t1_loop.trips} {off : Fin 2 → ℕ} {inb} {w : Vec F S1x16 .f32} {hx hm}
    {k : PUnit → TProg F L β} {b : β} (hK : K < 64) (hoff : off = ![16 * t.val + K / 4, 16 * (K % 4)])
    (hw : w = shapeCast S1x16 (ov T E t.val (K / 4) (K % 4)) shapeCasts_S16_S1x16)
    (hk : Runs d T E C (full T E O₀ (64 * t.val + (K + 1))) (k ⟨⟩) b C' O') :
    Runs d T E C (full T E O₀ (64 * t.val + K))
      (Prog.lift (.store mO (Rect.unit (s := S512x64) off S1x16.size inb) w Finset.univ hx hm) >>= k) b C' O' := by
  subst hw
  intro Φ
  simp only [Prog.lift, Prog.bind_op, Prog.bind_ret]
  unfold pts
  iintro ⟨⟨HT, HE, HC, HO⟩, Hk⟩
  iapply (wp_store (defs := defs₀ (F := F)) 𝒱₀ (tile d L) none Set.univ (m := mO)
    (r := Rect.unit (s := S512x64) off S1x16.size inb) (w := shapeCast S1x16 (ov T E t.val (K / 4) (K % 4)) shapeCasts_S16_S1x16) (Mk := Finset.univ) (S := Finset.univ)
    (Finset.subset_univ _)) $$ HO
  rw [write_full T E O₀ (trip_lt t) hK hoff]
  iintro HO
  iapply (hk Φ)
  unfold pts
  isplitr [Hk]
  · isplitl [HT]; · iexact HT
    isplitl [HE]; · iexact HE
    isplitl [HC] <;> iassumption
  iexact Hk

/-- A side condition that holds. -/
theorem holds {P : Prop} {dec : Decidable P} {k : PLift P → TProg F L β} {b : β} (h : P)
    (hk : Runs d T E C O (k ⟨h⟩) b C' O') : Runs d T E C O (Prog.lift (.assume P dec) >>= k) b C' O' := by
  intro Φ
  simp only [Prog.lift, Prog.bind_op, Prog.bind_ret]
  exact (hk Φ).trans (wp_assume 𝒱₀ (tile d L) none Set.univ h)

/-- The gather of token `n` of trip `t`'s rows. -/
theorem tok (n : ℕ) {t : Fin k0_t1_loop.trips} {h hl} {k : Vec F S16 .i32 → TProg F L β} {b : β} (hn : n < 50)
    (hk : Runs d T E C O (k (tk T t.val n)) b C' O') :
    Runs d T E C O (SparseCore.vectorLoadIdx mT ![rowIdx t, broadcast S16 (BitVec.ofNat 32 n)] h hl >>= k) b C' O' := by
  intro Φ
  unfold pts
  iintro ⟨⟨HT, HE, HC, HO⟩, Hk⟩
  iapply (SparseCore.wp_vectorLoadIdx (defs := defs₀ (F := F)) 𝒱₀ (tile d L) none Set.univ (base := mT) (S := Finset.univ) (q := fullShare)
    (Finset.subset_univ _)) $$ HT
  iintro HT
  rw [show (mT.access (.whole S512x50)).read (Elt F) T = T from Memref.read_access_whole _ _ _]
  rw [loadIdx_tk T t hn]
  iapply (hk Φ)
  unfold pts
  isplitr [Hk]
  · isplitl [HT]; · iexact HT
    isplitl [HE]; · iexact HE
    isplitl [HC] <;> iassumption
  iexact Hk

/-- The gather of one entry of the count scratch into every lane. -/
theorem cnt (n : ℕ) {v : IVec S16 32} {h hl} {k : Vec F S16 .f32 → TProg F L β} {b : β} (hn : n < 48)
    (hv : v = broadcast S16 (BitVec.ofNat 32 n))
    (hk : Runs d T E C O (k (cn C n)) b C' O') :
    Runs d T E C O (SparseCore.vectorLoadIdx mC ![v] h hl >>= k) b C' O' := by
  subst hv
  intro Φ
  unfold pts
  iintro ⟨⟨HT, HE, HC, HO⟩, Hk⟩
  iapply (SparseCore.wp_vectorLoadIdx (defs := defs₀ (F := F)) 𝒱₀ (tile d L) none Set.univ (base := mC) (S := Finset.univ) (q := fullShare)
    (Finset.subset_univ _)) $$ HC
  iintro HC
  rw [show (mC.access (.whole S48)).read (Elt F) C = C from Memref.read_access_whole _ _ _]
  rw [loadIdx_cn C hn]
  iapply (hk Φ)
  unfold pts
  isplitr [Hk]
  · isplitl [HT]; · iexact HT
    isplitl [HE]; · iexact HE
    isplitl [HC] <;> iassumption
  iexact Hk

end Runs

end Cert.Proof.KernelIdeal
-- ==== Proof.Count.lean ====
/-
  A trip's first half: fifty gathers of token columns, the running sums between them, and the three stores of the counts.
-/
module

public import proofs.«01_k».proof.Proof.Steps

@[expose] public section

noncomputable section

namespace Cert.Proof.KernelIdeal

open Cert.KernelIdeal Cert.KernelIdeal.Gen

open Idealize.ShloMosaic
open Idealize.SL Idealize.SL.Sem

variable {F : FTy → Type} [FloatOps F] [Named F]

abbrev aT : Memref sig .scVector .hbm S16384x50 .i32 := Memref.whole main_arg2_scv
abbrev aE : Memref sig .scVector .hbm S4x64 .f32 := Memref.whole main_arg3_scv
abbrev aO : Memref sig .scVector .hbm S16384x64 .f32 := Memref.whole main_v0_scv

/-- A window of the kernel's body at grid point `L`, on the arrays, scratch and semaphores the launch passes. -/
abbrev onL {β : grid0.Coords → Type 1} (L : grid0.Coords)
    (f : (i : grid0.Coords) → (arg2 : Memref sig .scVector .hbm S16384x50 .i32) → arg2.IsWhole
      → (arg3 : Memref sig .scVector .hbm S4x64 .f32) → arg3.IsWhole → (arg4 : Memref sig .scVector .hbm S16384x64 .f32) → arg4.IsWhole
      → (arg5 : Memref sig .scVector .vmem S512x50 .i32) → arg5.IsWhole → (arg6 : Memref sig .scVector .vmem S4x64 .f32) → arg6.IsWhole
      → (arg7 : Memref sig .scVector .vmem S48 .f32) → arg7.IsWhole → (arg8 : Memref sig .scVector .vmem S512x64 .f32) → arg8.IsWhole
      → DmaSems sig S_ → DmaSems sig S_ → DmaSems sig S_ → β i) : β L :=
  f L aT (Memref.isWhole_whole _) aE (Memref.isWhole_whole _) aO (Memref.isWhole_whole _) mT (Memref.isWhole_whole _)
    mE (Memref.isWhole_whole _) mC (Memref.isWhole_whole _) mO (Memref.isWhole_whole _) cc0_scoped0 cc0_scoped1 cc0_scoped2

/-- The two bits of token `n`. -/
abbrev b0 (T : Vec F S512x50 .i32) (t n : ℕ) : IVec S16 32 := andi (tk T t n) (broadcast S16 1#32)
abbrev b1 (T : Vec F S512x50 .i32) (t n : ℕ) : IVec S16 32 := shrsi (tk T t n) (broadcast S16 1#32)

variable {d : Dev nD} {L : grid0.Coords} {T : Vec F S512x50 .i32} {E : Vec F S4x64 .f32}
variable {C : Vec F S48 .f32} {O : Vec F S512x64 .f32} (t : Fin k0_t1_loop.trips)

theorem part1 : Runs d T E C O
    (onL L (k0_part1 (F := F)) (iota .scVector S16 32 [0] iota_S16_d0_w32_scVector) 0#32 1#32 t)
    ⟨Scf.iv 0#32 1#32 t, rowIdx t, sb0 T t 3, sb1 T t 3, sb3 T t 3, tk T t 3, b0 T t 3⟩ C O := by
  rw [k0_part1_eq_skeleton]
  unfold onL k0_part1_skel
  iterate 4
    refine Runs.holds ?_ ?_
    · exact inT t (by decide)
    refine Runs.tok _ (by decide) ?_
  exact .ret _

theorem part2 : Runs d T E C O
    (onL L (k0_part2 (F := F)) (rowIdx t) (sb0 T t 3) (sb1 T t 3) (sb3 T t 3) (tk T t 3) (b0 T t 3))
    ⟨sb1 T t 7, sb3 T t 7, b0 T t 7, b1 T t 7, sb0 T t 8⟩ C O := by
  rw [k0_part2_eq_skeleton]
  unfold onL k0_part2_skel
  iterate 4
    refine Runs.holds ?_ ?_
    · exact inT t (by decide)
    refine Runs.tok _ (by decide) ?_
  exact .ret _

theorem part3 : Runs d T E C O
    (onL L (k0_part3 (F := F)) (rowIdx t) (sb1 T t 7) (sb3 T t 7) (b0 T t 7) (b1 T t 7) (sb0 T t 8))
    ⟨sb0 T t 12, sb1 T t 12, sb3 T t 12, 12#32⟩ C O := by
  rw [k0_part3_eq_skeleton]
  unfold onL k0_part3_skel
  iterate 4
    refine Runs.holds ?_ ?_
    · exact inT t (by decide)
    refine Runs.tok _ (by decide) ?_
  exact .ret _

theorem part4 : Runs d T E C O
    (onL L (k0_part4 (F := F)) (rowIdx t) (sb0 T t 12) (sb1 T t 12) (sb3 T t 12) 12#32)
    ⟨sb0 T t 16, sb1 T t 16, sb3 T t 16, tk T t 16, 1#32⟩ C O := by
  rw [k0_part4_eq_skeleton]
  unfold onL k0_part4_skel
  iterate 5
    refine Runs.holds ?_ ?_
    · exact inT t (by decide)
    refine Runs.tok _ (by decide) ?_
  exact .ret _

theorem part5 : Runs d T E C O
    (onL L (k0_part5 (F := F)) (rowIdx t) (sb0 T t 16) (sb1 T t 16) (sb3 T t 16) (tk T t 16) 1#32)
    ⟨sb0 T t 20, sb1 T t 20, sb3 T t 20, tk T t 20, b0 T t 20, broadcast S16 1#32⟩ C O := by
  rw [k0_part5_eq_skeleton]
  unfold onL k0_part5_skel
  iterate 4
    refine Runs.holds ?_ ?_
    · exact inT t (by decide)
    refine Runs.tok _ (by decide) ?_
  exact .ret _

theorem part6 : Runs d T E C O
    (onL L (k0_part6 (F := F)) (rowIdx t) (sb0 T t 20) (sb1 T t 20) (sb3 T t 20) (tk T t 20) (b0 T t 20) (broadcast S16 1#32))
    ⟨sb3 T t 24, sb0 T t 25, sb1 T t 25, andi (b0 T t 24) (b1 T t 24)⟩ C O := by
  rw [k0_part6_eq_skeleton]
  unfold onL k0_part6_skel
  iterate 4
    refine Runs.holds ?_ ?_
    · exact inT t (by decide)
    refine Runs.tok _ (by decide) ?_
  exact .ret _

theorem part7 : Runs d T E C O
    (onL L (k0_part7 (F := F)) (rowIdx t) (sb3 T t 24) (sb0 T t 25) (sb1 T t 25) (andi (b0 T t 24) (b1 T t 24)))
    ⟨sb0 T t 29, sb1 T t 29, sb3 T t 29, broadcast S16 29#32, inT t (by decide)⟩ C O := by
  rw [k0_part7_eq_skeleton]
  unfold onL k0_part7_skel
  iterate 4
    refine Runs.holds ?_ ?_
    · exact inT t (by decide)
    refine Runs.tok _ (by decide) ?_
  refine Runs.holds ?_ ?_
  · exact inT t (by decide)
  exact .ret _

theorem part8 (h : k0_chk30 (rowIdx t) (broadcast S16 29#32)) : Runs d T E C O
    (onL L (k0_part8 (F := F)) (rowIdx t) (sb0 T t 29) (sb1 T t 29) (sb3 T t 29) (broadcast S16 29#32) h)
    ⟨sb0 T t 33, sb1 T t 33, sb3 T t 33, tk T t 33, b0 T t 33⟩ C O := by
  rw [k0_part8_eq_skeleton]
  unfold onL k0_part8_skel
  refine Runs.tok _ (by decide) ?_
  iterate 4
    refine Runs.holds ?_ ?_
    · exact inT t (by decide)
    refine Runs.tok _ (by decide) ?_
  exact .ret _

theorem part9 : Runs d T E C O
    (onL L (k0_part9 (F := F)) (rowIdx t) (sb0 T t 33) (sb1 T t 33) (sb3 T t 33) (tk T t 33) (b0 T t 33))
    ⟨sb1 T t 37, sb3 T t 37, b0 T t 37, b1 T t 37, sb0 T t 38⟩ C O := by
  rw [k0_part9_eq_skeleton]
  unfold onL k0_part9_skel
  iterate 4
    refine Runs.holds ?_ ?_
    · exact inT t (by decide)
    refine Runs.tok _ (by decide) ?_
  exact .ret _

theorem part10 : Runs d T E C O
    (onL L (k0_part10 (F := F)) (rowIdx t) (sb1 T t 37) (sb3 T t 37) (b0 T t 37) (b1 T t 37) (sb0 T t 38))
    ⟨sb0 T t 42, sb1 T t 42, sb3 T t 42, 42#32⟩ C O := by
  rw [k0_part10_eq_skeleton]
  unfold onL k0_part10_skel
  iterate 4
    refine Runs.holds ?_ ?_
    · exact inT t (by decide)
    refine Runs.tok _ (by decide) ?_
  exact .ret _

theorem part11 : Runs d T E C O
    (onL L (k0_part11 (F := F)) (rowIdx t) (sb0 T t 42) (sb1 T t 42) (sb3 T t 42) 42#32)
    ⟨sb0 T t 46, sb1 T t 46, sb3 T t 46, tk T t 46, 1#32⟩ C O := by
  rw [k0_part11_eq_skeleton]
  unfold onL k0_part11_skel
  iterate 5
    refine Runs.holds ?_ ?_
    · exact inT t (by decide)
    refine Runs.tok _ (by decide) ?_
  exact .ret _

/-- The count scratch `C` with sixteen entries from `o` replaced by `w`. -/
abbrev putC (o : ℕ) (inb : ∀ a, (![o] : Fin 1 → ℕ) a + S16.size a ≤ S48.size a) (C : Vec F S48 .f32) (w : FVec F S16 .f32) : Vec F S48 .f32 :=
  (mC.access (Rect.unit (s := S48) ![o] S16.size inb)).write (Elt F) C w Finset.univ

theorem part12 : Runs d T E C O
    (onL L (k0_part12 (F := F)) (rowIdx t) (sb0 T t 46) (sb1 T t 46) (sb3 T t 46) (tk T t 46) 1#32)
    ⟨sb3 T t 50, c2v T t⟩ (putC 0 inb_S48_S16_0 C (shapeCast S16 (c1v T t) shapeCasts_S16_S16)) O := by
  rw [k0_part12_eq_skeleton]
  unfold onL k0_part12_skel
  iterate 3
    refine Runs.holds ?_ ?_
    · exact inT t (by decide)
    refine Runs.tok _ (by decide) ?_
  refine Runs.loadC fun _ => ?_
  refine Runs.storeC rfl ?_
  exact .ret _

end Cert.Proof.KernelIdeal
-- ==== Proof.Rows.lean ====
/-
  A trip's second half: per batch row, the gathers of its three counts and the stores of its four sixteen-lane groups.
-/
module

public import proofs.«01_k».proof.Proof.Count

@[expose] public section

noncomputable section

namespace Cert.Proof.KernelIdeal

open Cert.KernelIdeal Cert.KernelIdeal.Gen

open Idealize.ShloMosaic
open Idealize.SL Idealize.SL.Sem

variable {F : FTy → Type} [FloatOps F] [Named F]

theorem putC_apply (o : ℕ) (inb) (C : Vec F S48 .f32) (w : FVec F S16 .f32) (i : S48.Idx) :
    putC o inb C w i = if o ≤ (i 0).val ∧ (i 0).val < o + 16 then w (ix16 ((i 0).val - o)) else C i := by
  refine (congrFun (View.write_whole_slice_unit cc0_scratch2 _ _ inb _ _) i).trans ?_
  unfold updateSlice
  split
  · next hin =>
    have h0 : o ≤ (i 0).val ∧ (i 0).val < o + 16 := hin 0
    rw [if_pos h0]
    congr 1
    funext a
    fin_cases a
    apply Fin.ext
    show (i 0).val - o = ((i 0).val - o) % 16
    omega
  · next hout =>
    rw [if_neg]
    intro h0
    apply hout
    intro a
    fin_cases a
    exact h0

/-- The three stores fill the count scratch, whatever it held. -/
theorem putC_cfin (T : Vec F S512x50 .i32) (t : ℕ) (C : Vec F S48 .f32) :
    putC 32 inb_S48_S16_32 (putC 16 inb_S48_S16_16 (putC 0 inb_S48_S16_0 C (shapeCast S16 (c1v T t) shapeCasts_S16_S16))
      (shapeCast S16 (c2v T t) shapeCasts_S16_S16)) (shapeCast S16 (c3v T t) shapeCasts_S16_S16) = cfin T t := by
  funext i
  have hi : (i 0).val < 48 := (i 0).isLt
  rw [shapeCast_self, shapeCast_self, shapeCast_self, putC_apply, putC_apply, putC_apply]
  unfold cfin
  by_cases h1 : (i 0).val < 16
  · rw [if_neg (by omega), if_neg (by omega), if_pos (by omega), if_pos h1, Nat.sub_zero]
  · by_cases h2 : (i 0).val < 32
    · rw [if_neg (by omega), if_pos (by omega), if_neg h1, if_pos h2]
    · rw [if_pos (by omega), if_neg h1, if_neg h2]

/-- The output row of batch row `e` of trip `t`, as the word the kernel computes. -/
abbrev rowWord (t : Fin k0_t1_loop.trips) (e : BitVec 32) : BitVec 32 := Scalar.addi (Scalar.muli (Scf.iv 0#32 1#32 t) 16#32) e

/-- Entries `e`, `16 + e`, `32 + e` of the counts of trip `t`. -/
abbrev g1 (T : Vec F S512x50 .i32) (t e : ℕ) : Vec F S16 .f32 := cn (cfin T t) e
abbrev g2 (T : Vec F S512x50 .i32) (t e : ℕ) : Vec F S16 .f32 := cn (cfin T t) (16 + e)
abbrev g3 (T : Vec F S512x50 .i32) (t e : ℕ) : Vec F S16 .f32 := cn (cfin T t) (32 + e)

variable {d : Dev nD} {L : grid0.Coords} {T : Vec F S512x50 .i32} {E : Vec F S4x64 .f32}
variable {C : Vec F S48 .f32} {O : Vec F S512x64 .f32} (t : Fin k0_t1_loop.trips)

theorem part13 : Runs d T E (putC 0 inb_S48_S16_0 C (shapeCast S16 (c1v T t) shapeCasts_S16_S16)) (full T E O (64 * t + 0))
    (onL L (k0_part13 (F := F)) (p0 E 0) (p0 E 1) (p0 E 2) (dk E 1 0) (dk E 1 1) (dk E 1 2) (dk E 2 0) (dk E 2 1) (dk E 2 2) (dk E 3 0) (dk E 3 1) (dk E 3 2) t (Scf.iv 0#32 1#32 t) (sb3 T t 50) (c2v T t))
    ⟨g1 T t 0, g2 T t 0, g3 T t 0, rowWord t 0#32, ov T E t 0 2⟩ (cfin T t) (full T E O (64 * t + 2)) := by
  rw [k0_part13_eq_skeleton]
  unfold onL k0_part13_skel
  refine Runs.loadC fun _ => ?_
  refine Runs.storeC rfl ?_
  refine Runs.loadC fun _ => ?_
  refine Runs.storeC (putC_cfin T t C) ?_
  refine Runs.holds (inC (n := 0) (by decide) : k0_chk51 _) (Runs.cnt 0 (by decide) (by rfl) ?_)
  refine Runs.holds (inC (n := 16) (by decide) : k0_chk52 _) (Runs.cnt 16 (by decide) (by rfl) ?_)
  refine Runs.holds (inC (n := 32) (by decide) : k0_chk53 _) (Runs.cnt 32 (by decide) (by rfl) ?_)
  iterate 2
    refine Runs.loadO fun _ => ?_
    refine Runs.out _ (by decide) (by clear * -; revert t; decide +kernel) (by rfl) ?_
  exact .ret _

theorem part14 (w : BitVec 32) : Runs d T E (cfin T t) (full T E O (64 * t + 2))
    (onL L (k0_part14 (F := F)) (p0 E 0) (p0 E 1) (p0 E 3) (dk E 1 0) (dk E 1 1) (dk E 1 2) (dk E 1 3) (dk E 2 0) (dk E 2 1) (dk E 2 3) (dk E 3 0) (dk E 3 1) (dk E 3 3) t (Scf.iv 0#32 1#32 t)
      (g1 T t 0) (g2 T t 0) (g3 T t 0) w (ov T E t 0 2))
    ⟨g1 T t 1, g2 T t 1, g3 T t 1, rowWord t 1#32, mulf (g1 T t 1) (dk E 1 2)⟩ (cfin T t) (full T E O (64 * t + 6)) := by
  rw [k0_part14_eq_skeleton]
  unfold onL k0_part14_skel
  iterate 2
    refine Runs.loadO fun _ => Runs.out _ (by decide) (by clear * -; revert t; decide +kernel) (by rfl) ?_
  refine Runs.holds (inC (n := 1) (by decide) : k0_chk54 _) (Runs.cnt 1 (by decide) (by rfl) ?_)
  refine Runs.holds (inC (n := 17) (by decide) : k0_chk55 _) (Runs.cnt 17 (by decide) (by rfl) ?_)
  refine Runs.holds (inC (n := 33) (by decide) : k0_chk56 _) (Runs.cnt 33 (by decide) (by rfl) ?_)
  iterate 2
    refine Runs.loadO fun _ => Runs.out _ (by decide) (by clear * -; revert t; decide +kernel) (by rfl) ?_
  exact .ret _

theorem part15 (w : BitVec 32) : Runs d T E (cfin T t) (full T E O (64 * t + 6))
    (onL L (k0_part15 (F := F)) (p0 E 0) (p0 E 1) (p0 E 2) (p0 E 3) (dk E 1 0) (dk E 1 1) (dk E 1 3) (dk E 2 0) (dk E 2 1) (dk E 2 2) (dk E 2 3) (dk E 3 0) (dk E 3 1) (dk E 3 2) (dk E 3 3) t (Scf.iv 0#32 1#32 t)
      (g1 T t 1) (g2 T t 1) (g3 T t 1) w (mulf (g1 T t 1) (dk E 1 2)))
    ⟨g1 T t 2, g2 T t 2, g3 T t 2, rowWord t 2#32, ov T E t 2 1⟩ (cfin T t) (full T E O (64 * t + 9)) := by
  rw [k0_part15_eq_skeleton]
  unfold onL k0_part15_skel
  iterate 2
    refine Runs.loadO fun _ => Runs.out _ (by decide) (by clear * -; revert t; decide +kernel) (by rfl) ?_
  refine Runs.holds (inC (n := 2) (by decide) : k0_chk57 _) (Runs.cnt 2 (by decide) (by rfl) ?_)
  refine Runs.holds (inC (n := 18) (by decide) : k0_chk58 _) (Runs.cnt 18 (by decide) (by rfl) ?_)
  refine Runs.holds (inC (n := 34) (by decide) : k0_chk59 _) (Runs.cnt 34 (by decide) (by rfl) ?_)
  refine Runs.loadO fun _ => Runs.out _ (by decide) (by clear * -; revert t; decide +kernel) (by rfl) ?_
  exact .ret _

theorem part16 (w : BitVec 32) : Runs d T E (cfin T t) (full T E O (64 * t + 9))
    (onL L (k0_part16 (F := F)) (p0 E 0) (p0 E 2) (p0 E 3) (dk E 1 0) (dk E 1 1) (dk E 1 2) (dk E 1 3) (dk E 2 0) (dk E 2 2) (dk E 2 3) (dk E 3 0) (dk E 3 2) (dk E 3 3) t (Scf.iv 0#32 1#32 t)
      (g1 T t 2) (g2 T t 2) (g3 T t 2) w (ov T E t 2 1))
    ⟨g1 T t 3, g2 T t 3, g3 T t 3, rowWord t 3#32, mulf (g1 T t 3) (dk E 1 1)⟩ (cfin T t) (full T E O (64 * t + 13)) := by
  rw [k0_part16_eq_skeleton]
  unfold onL k0_part16_skel
  iterate 3
    refine Runs.loadO fun _ => Runs.out _ (by decide) (by clear * -; revert t; decide +kernel) (by rfl) ?_
  refine Runs.holds (inC (n := 3) (by decide) : k0_chk60 _) (Runs.cnt 3 (by decide) (by rfl) ?_)
  refine Runs.holds (inC (n := 19) (by decide) : k0_chk61 _) (Runs.cnt 19 (by decide) (by rfl) ?_)
  refine Runs.holds (inC (n := 35) (by decide) : k0_chk62 _) (Runs.cnt 35 (by decide) (by rfl) ?_)
  refine Runs.loadO fun _ => Runs.out _ (by decide) (by clear * -; revert t; decide +kernel) (by rfl) ?_
  exact .ret _

theorem part17 (w : BitVec 32) : Runs d T E (cfin T t) (full T E O (64 * t + 13))
    (onL L (k0_part17 (F := F)) (p0 E 0) (p0 E 1) (p0 E 2) (p0 E 3) (dk E 1 0) (dk E 1 2) (dk E 1 3) (dk E 2 0) (dk E 2 1) (dk E 2 2) (dk E 2 3) (dk E 3 0) (dk E 3 1) (dk E 3 2) (dk E 3 3) t (Scf.iv 0#32 1#32 t)
      (g1 T t 3) (g2 T t 3) (g3 T t 3) w (mulf (g1 T t 3) (dk E 1 1)))
    ⟨g1 T t 4, g2 T t 4, g3 T t 4, rowWord t 4#32, ov T E t 4 0⟩ (cfin T t) (full T E O (64 * t + 16)) := by
  rw [k0_part17_eq_skeleton]
  unfold onL k0_part17_skel
  iterate 3
    refine Runs.loadO fun _ => Runs.out _ (by decide) (by clear * -; revert t; decide +kernel) (by rfl) ?_
  refine Runs.holds (inC (n := 4) (by decide) : k0_chk63 _) (Runs.cnt 4 (by decide) (by rfl) ?_)
  refine Runs.holds (inC (n := 20) (by decide) : k0_chk64 _) (Runs.cnt 20 (by decide) (by rfl) ?_)
  refine Runs.holds (inC (n := 36) (by decide) : k0_chk65 _) (Runs.cnt 36 (by decide) (by rfl) ?_)
  exact .ret _

theorem part18 (w : BitVec 32) : Runs d T E (cfin T t) (full T E O (64 * t + 16))
    (onL L (k0_part18 (F := F)) (p0 E 1) (p0 E 2) (p0 E 3) (dk E 1 0) (dk E 1 1) (dk E 1 2) (dk E 1 3) (dk E 2 1) (dk E 2 2) (dk E 2 3) (dk E 3 1) (dk E 3 2) (dk E 3 3) t (Scf.iv 0#32 1#32 t)
      (g1 T t 4) (g2 T t 4) (g3 T t 4) w (ov T E t 4 0))
    ⟨g1 T t 5, g2 T t 5, g3 T t 5, rowWord t 5#32, mulf (g1 T t 5) (dk E 1 0)⟩ (cfin T t) (full T E O (64 * t + 20)) := by
  rw [k0_part18_eq_skeleton]
  unfold onL k0_part18_skel
  iterate 4
    refine Runs.loadO fun _ => Runs.out _ (by decide) (by clear * -; revert t; decide +kernel) (by rfl) ?_
  refine Runs.holds (inC (n := 5) (by decide) : k0_chk66 _) (Runs.cnt 5 (by decide) (by rfl) ?_)
  refine Runs.holds (inC (n := 21) (by decide) : k0_chk67 _) (Runs.cnt 21 (by decide) (by rfl) ?_)
  refine Runs.holds (inC (n := 37) (by decide) : k0_chk68 _) (Runs.cnt 37 (by decide) (by rfl) ?_)
  exact .ret _

theorem part19 : Runs d T E (cfin T t) (full T E O (64 * t + 20))
    (onL L (k0_part19 (F := F)) (p0 E 0) (p0 E 1) (p0 E 2) (p0 E 3) (dk E 1 1) (dk E 1 2) (dk E 1 3) (dk E 2 0) (dk E 2 1) (dk E 2 2) (dk E 2 3) (dk E 3 0) (dk E 3 1) (dk E 3 2) (dk E 3 3) t
      (g1 T t 5) (g2 T t 5) (g3 T t 5) (rowWord t 5#32) (mulf (g1 T t 5) (dk E 1 0)))
    ⟨g1 T t 6, g2 T t 6, broadcast S16 38#32, inC (by decide)⟩ (cfin T t) (full T E O (64 * t + 24)) := by
  rw [k0_part19_eq_skeleton]
  unfold onL k0_part19_skel
  iterate 4
    refine Runs.loadO fun _ => Runs.out _ (by decide) (by clear * -; revert t; decide +kernel) (by rfl) ?_
  refine Runs.holds (inC (n := 6) (by decide) : k0_chk69 _) (Runs.cnt 6 (by decide) (by rfl) ?_)
  refine Runs.holds (inC (n := 22) (by decide) : k0_chk70 _) (Runs.cnt 22 (by decide) (by rfl) ?_)
  refine Runs.holds (inC (n := 38) (by decide) : k0_chk71 _) ?_
  exact .ret _

theorem part20 (h : k0_chk71 (broadcast S16 38#32)) : Runs d T E (cfin T t) (full T E O (64 * t + 24))
    (onL L (k0_part20 (F := F)) (p0 E 0) (p0 E 1) (p0 E 2) (p0 E 3) (dk E 1 0) (dk E 1 1) (dk E 1 2) (dk E 1 3) (dk E 2 0) (dk E 2 1) (dk E 2 2) (dk E 2 3) (dk E 3 0) (dk E 3 1) (dk E 3 2) (dk E 3 3) t (Scf.iv 0#32 1#32 t)
      (g1 T t 6) (g2 T t 6) (broadcast S16 38#32) h)
    ⟨broadcast S16 7#32, g1 T t 7, broadcast S16 23#32⟩ (cfin T t) (full T E O (64 * t + 28)) := by
  rw [k0_part20_eq_skeleton]
  unfold onL k0_part20_skel
  refine Runs.cnt 38 (by decide) (by rfl) ?_
  iterate 4
    refine Runs.loadO fun _ => Runs.out _ (by decide) (by clear * -; revert t; decide +kernel) (by rfl) ?_
  refine Runs.holds (inC (n := 7) (by decide) : k0_chk72 _) (Runs.cnt 7 (by decide) (by rfl) ?_)
  exact .ret _

theorem part21 : Runs d T E (cfin T t) (full T E O (64 * t + 28))
    (onL L (k0_part21 (F := F)) (p0 E 0) (p0 E 1) (p0 E 2) (p0 E 3) (dk E 1 0) (dk E 1 1) (dk E 1 2) (dk E 1 3) (dk E 2 0) (dk E 2 1) (dk E 2 2) (dk E 2 3) (dk E 3 0) (dk E 3 1) (dk E 3 2) (dk E 3 3) t (Scf.iv 0#32 1#32 t)
      (broadcast S16 7#32) (g1 T t 7) (broadcast S16 23#32))
    8#32 (cfin T t) (full T E O (64 * t + 32)) := by
  rw [k0_part21_eq_skeleton]
  unfold onL k0_part21_skel
  refine Runs.holds (inC (n := 23) (by decide) : k0_chk73 _) (Runs.cnt 23 (by decide) (by rfl) ?_)
  refine Runs.holds (inC (n := 39) (by decide) : k0_chk74 _) (Runs.cnt 39 (by decide) (by rfl) ?_)
  iterate 4
    refine Runs.loadO fun _ => Runs.out _ (by decide) (by clear * -; revert t; decide +kernel) (by rfl) ?_
  exact .ret _

theorem part22 : Runs d T E (cfin T t) (full T E O (64 * t + 32))
    (onL L (k0_part22 (F := F)) (p0 E 0) (p0 E 1) (p0 E 2) (p0 E 3) (dk E 1 0) (dk E 1 1) (dk E 1 2) (dk E 1 3) (dk E 2 0) (dk E 2 1) (dk E 2 2) (dk E 2 3) (dk E 3 0) (dk E 3 1) (dk E 3 2) (dk E 3 3) t (Scf.iv 0#32 1#32 t) 8#32)
    (ov T E t 8 3) (cfin T t) (full T E O (64 * t + 35)) := by
  rw [k0_part22_eq_skeleton]
  unfold onL k0_part22_skel
  refine Runs.holds (inC (n := 8) (by decide) : k0_chk75 _) (Runs.cnt 8 (by decide) (by rfl) ?_)
  refine Runs.holds (inC (n := 24) (by decide) : k0_chk76 _) (Runs.cnt 24 (by decide) (by rfl) ?_)
  refine Runs.holds (inC (n := 40) (by decide) : k0_chk77 _) (Runs.cnt 40 (by decide) (by rfl) ?_)
  iterate 3
    refine Runs.loadO fun _ => Runs.out _ (by decide) (by clear * -; revert t; decide +kernel) (by rfl) ?_
  exact .ret _

theorem part23 : Runs d T E (cfin T t) (full T E O (64 * t + 35))
    (onL L (k0_part23 (F := F)) (p0 E 0) (p0 E 1) (p0 E 2) (dk E 1 0) (dk E 1 1) (dk E 1 2) (dk E 1 3) (dk E 2 0) (dk E 2 1) (dk E 2 2) (dk E 3 0) (dk E 3 1) (dk E 3 2) t (Scf.iv 0#32 1#32 t) (ov T E t 8 3))
    ⟨g2 T t 9, g3 T t 9, rowWord t 9#32, mulf (g1 T t 9) (dk E 1 3)⟩ (cfin T t) (full T E O (64 * t + 39)) := by
  rw [k0_part23_eq_skeleton]
  unfold onL k0_part23_skel
  refine Runs.loadO fun _ => Runs.out _ (by decide) (by clear * -; revert t; decide +kernel) (by rfl) ?_
  refine Runs.holds (inC (n := 9) (by decide) : k0_chk78 _) (Runs.cnt 9 (by decide) (by rfl) ?_)
  refine Runs.holds (inC (n := 25) (by decide) : k0_chk79 _) (Runs.cnt 25 (by decide) (by rfl) ?_)
  refine Runs.holds (inC (n := 41) (by decide) : k0_chk80 _) (Runs.cnt 41 (by decide) (by rfl) ?_)
  iterate 3
    refine Runs.loadO fun _ => Runs.out _ (by decide) (by clear * -; revert t; decide +kernel) (by rfl) ?_
  exact .ret _

theorem part24 (w : BitVec 32) : Runs d T E (cfin T t) (full T E O (64 * t + 39))
    (onL L (k0_part24 (F := F)) (p0 E 0) (p0 E 1) (p0 E 2) (p0 E 3) (dk E 1 0) (dk E 1 1) (dk E 1 2) (dk E 2 0) (dk E 2 1) (dk E 2 2) (dk E 2 3) (dk E 3 0) (dk E 3 1) (dk E 3 2) (dk E 3 3) t (Scf.iv 0#32 1#32 t)
      (g2 T t 9) (g3 T t 9) w (mulf (g1 T t 9) (dk E 1 3)))
    ⟨g1 T t 10, g2 T t 10, g3 T t 10, rowWord t 10#32, ov T E t 10 2⟩ (cfin T t) (full T E O (64 * t + 42)) := by
  rw [k0_part24_eq_skeleton]
  unfold onL k0_part24_skel
  refine Runs.loadO fun _ => Runs.out _ (by decide) (by clear * -; revert t; decide +kernel) (by rfl) ?_
  refine Runs.holds (inC (n := 10) (by decide) : k0_chk81 _) (Runs.cnt 10 (by decide) (by rfl) ?_)
  refine Runs.holds (inC (n := 26) (by decide) : k0_chk82 _) (Runs.cnt 26 (by decide) (by rfl) ?_)
  refine Runs.holds (inC (n := 42) (by decide) : k0_chk83 _) (Runs.cnt 42 (by decide) (by rfl) ?_)
  iterate 2
    refine Runs.loadO fun _ => Runs.out _ (by decide) (by clear * -; revert t; decide +kernel) (by rfl) ?_
  exact .ret _

theorem part25 (w : BitVec 32) : Runs d T E (cfin T t) (full T E O (64 * t + 42))
    (onL L (k0_part25 (F := F)) (p0 E 0) (p0 E 1) (p0 E 3) (dk E 1 0) (dk E 1 1) (dk E 1 2) (dk E 1 3) (dk E 2 0) (dk E 2 1) (dk E 2 3) (dk E 3 0) (dk E 3 1) (dk E 3 3) t (Scf.iv 0#32 1#32 t)
      (g1 T t 10) (g2 T t 10) (g3 T t 10) w (ov T E t 10 2))
    ⟨g1 T t 11, g2 T t 11, g3 T t 11, rowWord t 11#32, mulf (g1 T t 11) (dk E 1 2)⟩ (cfin T t) (full T E O (64 * t + 46)) := by
  rw [k0_part25_eq_skeleton]
  unfold onL k0_part25_skel
  iterate 2
    refine Runs.loadO fun _ => Runs.out _ (by decide) (by clear * -; revert t; decide +kernel) (by rfl) ?_
  refine Runs.holds (inC (n := 11) (by decide) : k0_chk84 _) (Runs.cnt 11 (by decide) (by rfl) ?_)
  refine Runs.holds (inC (n := 27) (by decide) : k0_chk85 _) (Runs.cnt 27 (by decide) (by rfl) ?_)
  refine Runs.holds (inC (n := 43) (by decide) : k0_chk86 _) (Runs.cnt 43 (by decide) (by rfl) ?_)
  iterate 2
    refine Runs.loadO fun _ => Runs.out _ (by decide) (by clear * -; revert t; decide +kernel) (by rfl) ?_
  exact .ret _

theorem part26 (w : BitVec 32) : Runs d T E (cfin T t) (full T E O (64 * t + 46))
    (onL L (k0_part26 (F := F)) (p0 E 0) (p0 E 1) (p0 E 2) (p0 E 3) (dk E 1 0) (dk E 1 1) (dk E 1 3) (dk E 2 0) (dk E 2 1) (dk E 2 2) (dk E 2 3) (dk E 3 0) (dk E 3 1) (dk E 3 2) (dk E 3 3) t (Scf.iv 0#32 1#32 t)
      (g1 T t 11) (g2 T t 11) (g3 T t 11) w (mulf (g1 T t 11) (dk E 1 2)))
    ⟨g1 T t 12, g2 T t 12, g3 T t 12, rowWord t 12#32, ov T E t 12 1⟩ (cfin T t) (full T E O (64 * t + 49)) := by
  rw [k0_part26_eq_skeleton]
  unfold onL k0_part26_skel
  iterate 2
    refine Runs.loadO fun _ => Runs.out _ (by decide) (by clear * -; revert t; decide +kernel) (by rfl) ?_
  refine Runs.holds (inC (n := 12) (by decide) : k0_chk87 _) (Runs.cnt 12 (by decide) (by rfl) ?_)
  refine Runs.holds (inC (n := 28) (by decide) : k0_chk88 _) (Runs.cnt 28 (by decide) (by rfl) ?_)
  refine Runs.holds (inC (n := 44) (by decide) : k0_chk89 _) (Runs.cnt 44 (by decide) (by rfl) ?_)
  refine Runs.loadO fun _ => Runs.out _ (by decide) (by clear * -; revert t; decide +kernel) (by rfl) ?_
  exact .ret _

theorem part27 (w : BitVec 32) : Runs d T E (cfin T t) (full T E O (64 * t + 49))
    (onL L (k0_part27 (F := F)) (p0 E 0) (p0 E 2) (p0 E 3) (dk E 1 0) (dk E 1 1) (dk E 1 2) (dk E 1 3) (dk E 2 0) (dk E 2 2) (dk E 2 3) (dk E 3 0) (dk E 3 2) (dk E 3 3) t (Scf.iv 0#32 1#32 t)
      (g1 T t 12) (g2 T t 12) (g3 T t 12) w (ov T E t 12 1))
    ⟨g1 T t 13, g2 T t 13, g3 T t 13, rowWord t 13#32, mulf (g1 T t 13) (dk E 1 1)⟩ (cfin T t) (full T E O (64 * t + 53)) := by
  rw [k0_part27_eq_skeleton]
  unfold onL k0_part27_skel
  iterate 3
    refine Runs.loadO fun _ => Runs.out _ (by decide) (by clear * -; revert t; decide +kernel) (by rfl) ?_
  refine Runs.holds (inC (n := 13) (by decide) : k0_chk90 _) (Runs.cnt 13 (by decide) (by rfl) ?_)
  refine Runs.holds (inC (n := 29) (by decide) : k0_chk91 _) (Runs.cnt 29 (by decide) (by rfl) ?_)
  refine Runs.holds (inC (n := 45) (by decide) : k0_chk92 _) (Runs.cnt 45 (by decide) (by rfl) ?_)
  refine Runs.loadO fun _ => Runs.out _ (by decide) (by clear * -; revert t; decide +kernel) (by rfl) ?_
  exact .ret _

theorem part28 (w : BitVec 32) : Runs d T E (cfin T t) (full T E O (64 * t + 53))
    (onL L (k0_part28 (F := F)) (p0 E 0) (p0 E 1) (p0 E 2) (p0 E 3) (dk E 1 0) (dk E 1 2) (dk E 1 3) (dk E 2 0) (dk E 2 1) (dk E 2 2) (dk E 2 3) (dk E 3 0) (dk E 3 1) (dk E 3 2) (dk E 3 3) t (Scf.iv 0#32 1#32 t)
      (g1 T t 13) (g2 T t 13) (g3 T t 13) w (mulf (g1 T t 13) (dk E 1 1)))
    ⟨g1 T t 14, g2 T t 14, g3 T t 14, rowWord t 14#32, ov T E t 14 0⟩ (cfin T t) (full T E O (64 * t + 56)) := by
  rw [k0_part28_eq_skeleton]
  unfold onL k0_part28_skel
  iterate 3
    refine Runs.loadO fun _ => Runs.out _ (by decide) (by clear * -; revert t; decide +kernel) (by rfl) ?_
  refine Runs.holds (inC (n := 14) (by decide) : k0_chk93 _) (Runs.cnt 14 (by decide) (by rfl) ?_)
  refine Runs.holds (inC (n := 30) (by decide) : k0_chk94 _) (Runs.cnt 30 (by decide) (by rfl) ?_)
  refine Runs.holds (inC (n := 46) (by decide) : k0_chk95 _) (Runs.cnt 46 (by decide) (by rfl) ?_)
  exact .ret _

theorem part29 (w : BitVec 32) : Runs d T E (cfin T t) (full T E O (64 * t + 56))
    (onL L (k0_part29 (F := F)) (p0 E 1) (p0 E 2) (p0 E 3) (dk E 1 0) (dk E 1 1) (dk E 1 2) (dk E 1 3) (dk E 2 1) (dk E 2 2) (dk E 2 3) (dk E 3 1) (dk E 3 2) (dk E 3 3) t (Scf.iv 0#32 1#32 t)
      (g1 T t 14) (g2 T t 14) (g3 T t 14) w (ov T E t 14 0))
    ⟨g1 T t 15, g2 T t 15, g3 T t 15, rowWord t 15#32, mulf (g1 T t 15) (dk E 1 0)⟩ (cfin T t) (full T E O (64 * t + 60)) := by
  rw [k0_part29_eq_skeleton]
  unfold onL k0_part29_skel
  iterate 4
    refine Runs.loadO fun _ => Runs.out _ (by decide) (by clear * -; revert t; decide +kernel) (by rfl) ?_
  refine Runs.holds (inC (n := 15) (by decide) : k0_chk96 _) (Runs.cnt 15 (by decide) (by rfl) ?_)
  refine Runs.holds (inC (n := 31) (by decide) : k0_chk97 _) (Runs.cnt 31 (by decide) (by rfl) ?_)
  refine Runs.holds (inC (n := 47) (by decide) : k0_chk98 _) (Runs.cnt 47 (by decide) (by rfl) ?_)
  exact .ret _

theorem part30 : Runs d T E C (full T E O (64 * t + 0))
    (onL L (k0_part30 (F := F)) (iota .scVector S16 32 [0] iota_S16_d0_w32_scVector)
      (p0 E 0) (p0 E 1) (p0 E 2) (p0 E 3) (dk E 1 0) (dk E 1 1) (dk E 1 2) (dk E 1 3) (dk E 2 0) (dk E 2 1) (dk E 2 2) (dk E 2 3) (dk E 3 0) (dk E 3 1) (dk E 3 2) (dk E 3 3) 0#32 1#32 t)
    ⟨g1 T t 15, g2 T t 15, g3 T t 15, rowWord t 15#32, ov T E t 15 2⟩ (cfin T t) (full T E O (64 * t + 62)) := by
  rw [k0_part30_eq_skeleton]
  unfold onL k0_part30_skel
  refine .bind (part1 t) ?_
  refine .bind (part2 t) ?_
  refine .bind (part3 t) ?_
  refine .bind (part4 t) ?_
  refine .bind (part5 t) ?_
  refine .bind (part6 t) ?_
  refine .bind (part7 t) ?_
  refine .bind (part8 t _) ?_
  refine .bind (part9 t) ?_
  refine .bind (part10 t) ?_
  refine .bind (part11 t) ?_
  refine .bind (part12 t) ?_
  refine .bind (part13 t) ?_
  refine .bind (part14 t _) ?_
  refine .bind (part15 t _) ?_
  refine .bind (part16 t _) ?_
  refine .bind (part17 t _) ?_
  refine .bind (part18 t _) ?_
  refine .bind (part19 t) ?_
  refine .bind (part20 t _) ?_
  refine .bind (part21 t) ?_
  refine .bind (part22 t) ?_
  refine .bind (part23 t) ?_
  refine .bind (part24 t _) ?_
  refine .bind (part25 t _) ?_
  refine .bind (part26 t _) ?_
  refine .bind (part27 t _) ?_
  refine .bind (part28 t _) ?_
  refine .bind (part29 t _) ?_
  iterate 2
    refine Runs.loadO fun _ => Runs.out _ (by decide) (by clear * -; revert t; decide +kernel) (by rfl) ?_
  exact .ret _

/-- One trip fills the next sixty-four sixteen-lane groups of the output scratch. -/
theorem trip : Runs d T E C (full T E O (64 * t))
    (onL L (k0_t1_body (F := F)) (iota .scVector S16 32 [0] iota_S16_d0_w32_scVector)
      (p0 E 0) (p0 E 1) (p0 E 2) (p0 E 3) (dk E 1 0) (dk E 1 1) (dk E 1 2) (dk E 1 3) (dk E 2 0) (dk E 2 1) (dk E 2 2) (dk E 2 3)
      (subf (shapeCast S16 (er E 3 0) shapeCasts_S1x16_S16) (p0 E 0)) (broadcast S16 invL) (er E 3 1) (er E 3 2) (er E 3 3) t ())
    () (cfin T t) (full T E O (64 * (t + 1))) := by
  unfold onL k0_t1_body
  refine .bind (part30 t) ?_
  iterate 2
    refine Runs.loadO fun _ => Runs.out _ (by decide) (by clear * -; revert t; decide +kernel) (by rfl) ?_
  exact .ret _

end Cert.Proof.KernelIdeal
-- ==== Proof.Tile.lean ====
/-
  The whole task of one vector subcore: its token rows and the table fetched, the table's rows loaded, the thirty-two
  trips, and its output rows written back.
-/
module

public import proofs.«01_k».proof.Proof.Rows

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig (HIx 1) (Elt F) ℕ UU ℕ

/-- The token rows and the output rows of the subcore at `L`. -/
abbrev rT (L : grid0.Coords) : Memref sig .scVector .hbm S512x50 .i32 :=
  aT.slice (Rect.unit (s := S16384x50) (k0_off1 L) S512x50.size (k0_off1_inb L)) (fun _ => rfl)
abbrev rO (L : grid0.Coords) : Memref sig .scVector .hbm S512x64 .f32 :=
  aO.slice (Rect.unit (s := S16384x64) (k0_off66 L) S512x64.size (k0_off66_inb L)) (fun _ => rfl)

variable (d : Dev nD) (L : grid0.Coords)

/-- The loop: the output scratch written whole. -/
theorem loop (T : Vec F S512x50 .i32) (E : Vec F S4x64 .f32) (C : Vec F S48 .f32) (O : Vec F S512x64 .f32) (Φ : PUnit.{1} → sProp 𝕄) :
    iprop(pts d L T E C O ∗ ((∃ C', pts d L T E C' (full T E O 2048)) -∗ Φ (PUnit.unit : PUnit.{1})))
    ⊢ wp frame (wpE (defs₀ (F := F)) 𝒱₀ (tile d L) none) Set.univ
      (Scf.Loop.for k0_t1_loop k0_t1_ok (PUnit.unit : PUnit.{1})
        (onL L (k0_t1_body (F := F)) (iota .scVector S16 32 [0] iota_S16_d0_w32_scVector)
          (p0 E 0) (p0 E 1) (p0 E 2) (p0 E 3) (dk E 1 0) (dk E 1 1) (dk E 1 2) (dk E 1 3) (dk E 2 0) (dk E 2 1) (dk E 2 2) (dk E 2 3)
          (subf (shapeCast S16 (er E 3 0) shapeCasts_S1x16_S16) (p0 E 0)) (broadcast S16 invL) (er E 3 1) (er E 3 2) (er E 3 3))) Φ := by
  refine .trans ?_ (Scf.wp_for frame _ Set.univ _ _ _ k0_t1_ok _ _
    (fun k _ => iprop(∃ C', pts d L T E C' (full T E O (64 * k)))) ?_)
  · iintro ⟨H, Hk⟩
    isplitl [H]
    · iexists C; rw [show full T E O (64 * 0) = O from funext fun i => if_neg (Nat.not_lt_zero _)]; iexact H
    iintro %_ H
    iapply Hk
    rw [show (2048 : ℕ) = 64 * k0_t1_loop.trips by rw [trips_eq]]
    iexact H
  · intro t _
    iintro ⟨%C', H⟩
    iapply (trip (C := C') t _)
    isplitl [H]; · iexact H
    iintro H
    iexists _; iexact H

theorem part32 (T : Vec F S512x50 .i32) (E : Vec F S4x64 .f32) (C : Vec F S48 .f32) (O : Vec F S512x64 .f32) :
    Runs d T E C O (onL L (k0_part32 (F := F)) (p0 E 0) (p0 E 1) (p0 E 2) (p0 E 3))
      ⟨dk E 1 2, dk E 1 3, dk E 2 0, dk E 2 1, dk E 2 2, dk E 2 3, subf (shapeCast S16 (er E 3 0) shapeCasts_S1x16_S16) (p0 E 0), broadcast S16 invL⟩
      C O := by
  rw [k0_part32_eq_skeleton]
  unfold onL k0_part32_skel
  refine Runs.row 1 2 rfl (by decide) (by decide) ?_
  refine Runs.row 1 3 rfl (by decide) (by decide) ?_
  refine Runs.row 2 0 rfl (by decide) (by decide) ?_
  refine Runs.row 2 1 rfl (by decide) (by decide) ?_
  refine Runs.row 2 2 rfl (by decide) (by decide) ?_
  refine Runs.row 2 3 rfl (by decide) (by decide) ?_
  refine Runs.row 3 0 rfl (by decide) (by decide) ?_
  exact .ret _

/-- What the subcore at `L` holds of the launch's arrays: its token rows, a share of the table, its output rows. -/
def arrs (q : PosShare TreeShare) (tok : Vec F S16384x50 .i32) (emb : Vec F S4x64 .f32) (out : Vec F S16384x64 .f32) : sProp 𝕄 :=
  iprop(((rT L).view.loc (tile d L) ↦[(rT L).view.set]{fullShare} tok) ∗ (aE.view.loc (tile d L) ↦{q} emb)
    ∗ (rO L).view.loc (tile d L) ↦[(rO L).view.set]{fullShare} out)

/-- The token rows of block `b`, and what a run leaves in the output array: block by block, what the trips write. -/
def ixA (r c : ℕ) : S16384x50.Idx
  | 0 => ⟨r % 16384, Nat.mod_lt _ (by decide)⟩
  | 1 => ⟨c % 50, Nat.mod_lt _ (by decide)⟩
def blockT (tok : Vec F S16384x50 .i32) (b : ℕ) : Vec F S512x50 .i32 := fun x => tok (ixA (512 * b + (x 0).val) (x 1).val)
def spec (tok : Vec F S16384x50 .i32) (emb : Vec F S4x64 .f32) : Vec F S16384x64 .f32 := fun i =>
  ov (blockT tok ((i 0).val / 512)) emb ((i 0).val % 512 / 16) ((i 0).val % 16) ((i 1).val / 16) (ix16 ((i 1).val % 16))

/-- The number of the subcore's block. -/
def wid (L : grid0.Coords) : ℕ := 2 * (L 1).val + (L 0).val
theorem wid_lt : wid L < 32 := by
  have h0 : (L 0).val < 2 := (L 0).isLt
  have h1 : (L 1).val < 16 := (L 1).isLt
  unfold wid; omega

theorem read_rT (tok : Vec F S16384x50 .i32) : (rT L).view.read (Elt F) tok = blockT tok (wid L) := by
  have hw := wid_lt L
  funext x
  have h0 : (x 0).val < 512 := (x 0).isLt
  have h1 : (x 1).val < 50 := (x 1).isLt
  refine ((View.read_apply _ _).trans (cast_eq _ _)).trans ?_
  unfold blockT
  congr 1
  funext a
  fin_cases a
  · apply Fin.ext
    show k0_off1 L 0 + 1 * (x 0).val = (512 * wid L + (x 0).val) % 16384
    rw [k0_off1_eq]
    show 1024 * (L 1).val + 512 * (L 0).val + 1 * (x 0).val = _
    unfold wid at hw ⊢; omega
  · apply Fin.ext
    show k0_off1 L 1 + 1 * (x 1).val = (x 1).val % 50
    rw [k0_off1_eq]
    show 0 + 1 * (x 1).val = _
    omega

theorem part31 (q : PosShare TreeShare) (tok : Vec F S16384x50 .i32) (emb : Vec F S4x64 .f32) (out : Vec F S16384x64 .f32)
    (T : Vec F S512x50 .i32) (E : Vec F S4x64 .f32) (C : Vec F S48 .f32) (O : Vec F S512x64 .f32)
    (Ow : CellTallies nD τ sig (HIx 1)) (W : Waits sig (HIx 1)) (Φ : _ → sProp 𝕄) :
    iprop(Transfers.MayWaits (tile d L) (none : HIx 1) Ow ∗ arrs d L q tok emb out ∗ pts d L T E C O
      ∗ semVal (tile d L, SemLoc.dma cc0_scoped0.sem) 0 ∗ semVal (tile d L, SemLoc.dma cc0_scoped1.sem) 0 ∗ owes (tile d L) Ow W
      ∗ ((arrs d L q tok emb out ∗ pts d L (blockT tok (wid L)) emb C O
        ∗ semVal (tile d L, SemLoc.dma cc0_scoped0.sem) 0 ∗ semVal (tile d L, SemLoc.dma cc0_scoped1.sem) 0
        ∗ owes (tile d L) Ow (insert (SemLoc.dma cc0_scoped1.sem, (default : HIx 1)) (insert (SemLoc.dma cc0_scoped0.sem, (default : HIx 1)) W)))
        -∗ Φ ⟨iota .scVector S16 32 [0] iota_S16_d0_w32_scVector, p0 emb 0, p0 emb 1, p0 emb 2, p0 emb 3, dk emb 1 0, dk emb 1 1⟩))
    ⊢ wp frame (wpE (defs₀ (F := F)) 𝒱₀ (tile d L) none) Set.univ (onL L (k0_part31 (F := F))) Φ := by
  rw [k0_part31_eq_skeleton]
  unfold onL k0_part31_skel arrs pts
  iintro ⟨Hmw, ⟨Ht, He, Ho⟩, ⟨HT, HE, HC, HO⟩, Hs0, Hs1, Hw, Hk⟩
  sl_exec
  have hT : View.write (Elt F) mT.view T (part31.sl.dma0 L tok) Finset.univ = blockT tok (wid L) :=
    (View.write_whole_univ _ _ _).trans (read_rT L tok)
  have hE : View.write (Elt F) mE.view E (part31.sl.dma0_1 emb) Finset.univ = emb := View.write_whole_univ _ _ _
  rw [hT, hE, readAt_er (k := 0) (j := 0) emb (by decide) (by decide), readAt_er (k := 0) (j := 1) emb (by decide) (by decide),
    readAt_er (k := 0) (j := 2) emb (by decide) (by decide), readAt_er (k := 0) (j := 3) emb (by decide) (by decide),
    readAt_er (k := 1) (j := 0) emb (by decide) (by decide), readAt_er (k := 1) (j := 1) emb (by decide) (by decide)]
  rw [wp_ret, show part31.sl.v3 = iota .scVector S16 32 [0] iota_S16_d0_w32_scVector from rfl,
    show k0_pay257 (er emb 0 0) = p0 emb 0 from rfl, show k0_pay258 (er emb 0 1) = p0 emb 1 from rfl,
    show k0_pay259 (er emb 0 2) = p0 emb 2 from rfl, show k0_pay260 (er emb 0 3) = p0 emb 3 from rfl,
    show k0_pay261 (er emb 0 0) (er emb 1 0) = dk emb 1 0 from rfl, show k0_pay262 (er emb 0 1) (er emb 1 1) = dk emb 1 1 from rfl]
  imodintro
  iapply Hk
  isplitl [Ht He Ho]
  · isplitl [Ht]; · iexact Ht
    isplitl [He] <;> iassumption
  isplitl [HT HE HC HO]
  · isplitl [HT]; · iexact HT
    isplitl [HE]; · iexact HE
    isplitl [HC] <;> iassumption
  isplitl [Hs0]; · iexact Hs0
  isplitl [Hs1]; · iexact Hs1
  iexact Hw

/-- Where the output rows lie, and that what is written there is the run's value. -/
theorem write_rO (tok : Vec F S16384x50 .i32) (emb : Vec F S4x64 .f32) (out : Vec F S16384x64 .f32) (O : Vec F S512x64 .f32)
    (i : S16384x64.Idx) (hi : i ∈ (rO L).view.set) :
    (rO L).view.write (Elt F) out (full (blockT tok (wid L)) emb O 2048) Finset.univ i = spec tok emb i := by
  have hw := wid_lt L
  obtain ⟨j, -, rfl⟩ := Finset.mem_map.mp hi
  have h0 : (j 0).val < 512 := (j 0).isLt
  have h1 : (j 1).val < 64 := (j 1).isLt
  have e0 : ((rO L).view.emb j 0).val = 512 * wid L + (j 0).val := by
    show k0_off66 L 0 + 1 * (j 0).val = _
    rw [k0_off66_eq]
    show 1024 * (L 1).val + 512 * (L 0).val + 1 * (j 0).val = _
    unfold wid; omega
  have e1 : ((rO L).view.emb j 1).val = (j 1).val := by
    show k0_off66 L 1 + 1 * (j 1).val = _
    rw [k0_off66_eq]
    show 0 + 1 * (j 1).val = _
    omega
  refine ((View.write_emb_of_mem _ _ (Finset.mem_univ j)).trans (cast_eq _ _)).trans ?_
  unfold spec full
  rw [if_pos (by omega), e0, e1, show (512 * wid L + (j 0).val) / 512 = wid L by omega,
    show (512 * wid L + (j 0).val) % 512 / 16 = (j 0).val / 16 by omega, show (512 * wid L + (j 0).val) % 16 = (j 0).val % 16 by omega]

theorem task (q : PosShare TreeShare) (tok : Vec F S16384x50 .i32) (emb : Vec F S4x64 .f32) (out : Vec F S16384x64 .f32)
    (T : Vec F S512x50 .i32) (E : Vec F S4x64 .f32) (C : Vec F S48 .f32) (O : Vec F S512x64 .f32)
    (Ow : CellTallies nD τ sig (HIx 1)) (W : Waits sig (HIx 1)) :
    iprop(Transfers.MayWaits (tile d L) (none : HIx 1) Ow ∗ arrs d L q tok emb out ∗ pts d L T E C O
      ∗ semVal (tile d L, SemLoc.dma cc0_scoped0.sem) 0 ∗ semVal (tile d L, SemLoc.dma cc0_scoped1.sem) 0
      ∗ semVal (tile d L, SemLoc.dma cc0_scoped2.sem) 0 ∗ owes (tile d L) Ow W)
    ⊢ wp frame (wpE (defs₀ (F := F)) 𝒱₀ (tile d L) none) Set.univ (onL L (cc0__sc_body (F := F))) fun _ =>
      iprop(arrs d L q tok emb (spec tok emb) ∗ (∃ T E C O, pts d L T E C O)
        ∗ semVal (tile d L, SemLoc.dma cc0_scoped0.sem) 0 ∗ semVal (tile d L, SemLoc.dma cc0_scoped1.sem) 0
        ∗ semVal (tile d L, SemLoc.dma cc0_scoped2.sem) 0 ∗ ∃ W', ⌜∀ p ∈ W', p ∈ W ∨ p.2 = none⌝ ∗ owes (tile d L) Ow W') := by
  rw [cc0__sc_body_eq_skeleton]
  unfold onL cc0__sc_body_skel
  iintro ⟨#Hmw, Ha, Hp, Hs0, Hs1, Hs2, Hw⟩
  rw [wp_bind]
  iapply (part31 d L q tok emb out T E C O Ow W _)
  isplitr; · iexact Hmw
  isplitl [Ha]; · iexact Ha
  isplitl [Hp]; · iexact Hp
  isplitl [Hs0]; · iexact Hs0
  isplitl [Hs1]; · iexact Hs1
  isplitl [Hw]; · iexact Hw
  iintro ⟨Ha, Hp, Hs0, Hs1, Hw⟩
  rw [wp_bind]
  iapply (part32 d L (blockT tok (wid L)) emb C O _)
  isplitl [Hp]; · iexact Hp
  iintro Hp
  unfold pts
  icases Hp with ⟨HT, HE, HC, HO⟩
  sl_exec
  rw [readAt_er (k := 3) (j := 1) emb (by decide) (by decide), readAt_er (k := 3) (j := 2) emb (by decide) (by decide),
    readAt_er (k := 3) (j := 3) emb (by decide) (by decide), wp_bind]
  iapply (loop d L (blockT tok (wid L)) emb C O _)
  isplitl [HT HE HC HO]
  · unfold pts
    isplitl [HT]; · iexact HT
    isplitl [HE]; · iexact HE
    isplitl [HC] <;> iassumption
  iintro ⟨%C', Hp⟩
  unfold pts arrs
  icases Hp with ⟨HT, HE, HC, HO⟩
  icases Ha with ⟨Ht, He, Ho⟩
  sl_exec
  rw [show (rO L).view.writes (Elt F) out [⟨Rect.whole S512x64, task.sl.dma0 L tok emb O⟩]
      = (rO L).view.write (Elt F) out (full (blockT tok (wid L)) emb O 2048) Finset.univ from
        (View.write_univ_eq_writes_whole (rO L).view out [] _).symm, wp_ret]
  imodintro
  isplitl [Ht He Ho]
  · isplitl [Ht]; · iexact Ht
    isplitl [He]; · iexact He
    iapply (Entails.of_eq (pointsTo_congr (write_rO L tok emb out O))); iexact Ho
  isplitl [HT HE HC HO]
  · iexists _, _, _, _
    isplitl [HT]; · iexact HT
    isplitl [HE]; · iexact HE
    isplitl [HC] <;> iassumption
  isplitl [Hs0]; · iexact Hs0
  isplitl [Hs1]; · iexact Hs1
  isplitl [Hs2]; · iexact Hs2
  iexists _
  isplitr [Hw]
  rotate_left
  · iexact Hw
  ipureintro
  intro p hp
  simp only [Finset.mem_insert] at hp
  rcases hp with rfl | rfl | rfl | hp
  · exact .inr rfl
  · exact .inr rfl
  · exact .inr rfl
  · exact .inl hp

end Cert.Proof.KernelIdeal

end
-- ==== Proof.Launch.lean ====
/-
  The launch: @main's one call hands every vector subcore its token rows, a share of the table and its output rows, and
  gets them back with the output written; so the program runs, ends quiescent, leaves its arguments and holds `spec`.
-/
module

public import proofs.«01_k».proof.Proof.Tile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱 : Variants := 𝒱₀.lift
abbrev v₀ : 𝒱.V := Sum.inl none

theorem kFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The arrays, and their pieces -/

variable (m : (ℓ : Loc nD τ sig) → Buf (Elt F) ℓ) (ρ : Dev nD → PrngReg)

abbrev tLoc (d : Dev nD) : Loc nD τ sig := (SparseCore.T d).loc main_arg2
abbrev eLoc (d : Dev nD) : Loc nD τ sig := (SparseCore.T d).loc main_arg3
abbrev oLoc (d : Dev nD) : Loc nD τ sig := (SparseCore.T d).loc main_v0

def pt (c : Fin 2) (s : Fin 16) : grid0.Coords := fun | 0 => c | 1 => s | ⟨_ + 2, h⟩ => absurd h (Nat.not_lt.2 (Nat.le_add_left _ _))

theorem wid_pt (c : Fin 2) (s : Fin 16) : wid (pt c s) = 2 * s.val + c.val := rfl

theorem mem_rT (L : grid0.Coords) (i : S16384x50.Idx) : i ∈ (rT L).view.set ↔ (i 0).val / 512 = wid L := by
  have hw := wid_lt L
  have hi0 : (i 0).val < 16384 := (i 0).isLt
  have hi1 : (i 1).val < 50 := (i 1).isLt
  refine (Finset.ext_iff.mp (View.set_slice_whole main_arg2_scv _) i).trans (Rect.mem_set_unit.trans ?_)
  constructor
  · intro h
    have h0 := h 0
    rw [k0_off1_eq] at h0
    have h0' : 1024 * (L 1).val + 512 * (L 0).val ≤ (i 0).val ∧ (i 0).val < 1024 * (L 1).val + 512 * (L 0).val + 512 := h0
    unfold wid; omega
  · intro h a
    rw [k0_off1_eq]
    unfold wid at h
    fin_cases a
    · show 1024 * (L 1).val + 512 * (L 0).val ≤ (i 0).val ∧ (i 0).val < 1024 * (L 1).val + 512 * (L 0).val + 512
      omega
    · show 0 ≤ (i 1).val ∧ (i 1).val < 0 + 50
      omega

theorem mem_rO (L : grid0.Coords) (i : S16384x64.Idx) : i ∈ (rO L).view.set ↔ (i 0).val / 512 = wid L := by
  have hw := wid_lt L
  have hi0 : (i 0).val < 16384 := (i 0).isLt
  have hi1 : (i 1).val < 64 := (i 1).isLt
  refine (Finset.ext_iff.mp (View.set_slice_whole main_v0_scv _) i).trans (Rect.mem_set_unit.trans ?_)
  constructor
  · intro h
    have h0 := h 0
    rw [k0_off66_eq] at h0
    have h0' : 1024 * (L 1).val + 512 * (L 0).val ≤ (i 0).val ∧ (i 0).val < 1024 * (L 1).val + 512 * (L 0).val + 512 := h0
    unfold wid; omega
  · intro h a
    rw [k0_off66_eq]
    unfold wid at h
    fin_cases a
    · show 1024 * (L 1).val + 512 * (L 0).val ≤ (i 0).val ∧ (i 0).val < 1024 * (L 1).val + 512 * (L 0).val + 512
      omega
    · show 0 ≤ (i 1).val ∧ (i 1).val < 0 + 64
      omega

theorem pt_inj {p p' : Fin 2 × Fin 16} (h : wid (pt p.1 p.2) = wid (pt p'.1 p'.2)) : p = p' := by
  rw [wid_pt, wid_pt] at h
  have h1 := p.1.isLt; have h2 := p'.1.isLt
  exact Prod.ext (Fin.ext (by omega)) (Fin.ext (by omega))

theorem wid_surj {w : ℕ} (h : w < 32) : ∃ p : Fin 2 × Fin 16, w = wid (pt p.1 p.2) :=
  ⟨(⟨w % 2, by omega⟩, ⟨w / 2, by omega⟩), by rw [wid_pt]; show w = 2 * (w / 2) + w % 2; omega⟩

abbrev setT (p : Fin 2 × Fin 16) : Finset S16384x50.Idx := (rT (pt p.1 p.2)).view.set
abbrev setO (p : Fin 2 × Fin 16) : Finset S16384x64.Idx := (rO (pt p.1 p.2)).view.set

theorem rT_cover : ((Finset.univ : Finset (Fin 2 × Fin 16)).biUnion setT) = Finset.univ := by
  refine Finset.eq_univ_of_forall fun (i : S16384x50.Idx) => ?_
  have hi0 : (i 0).val < 16384 := (i 0).isLt
  obtain ⟨p, hp⟩ := wid_surj (w := (i 0).val / 512) (by omega)
  exact Finset.mem_biUnion.mpr ⟨p, Finset.mem_univ p, (mem_rT _ i).mpr hp⟩

theorem rT_disj : ∀ p ∈ (Finset.univ : Finset (Fin 2 × Fin 16)), ∀ p' ∈ (Finset.univ : Finset (Fin 2 × Fin 16)), p ≠ p' →
    Disjoint (setT p) (setT p') := fun p _ p' _ hne =>
  Finset.disjoint_left.mpr fun i h h' => hne (pt_inj (((mem_rT _ i).mp h).symm.trans ((mem_rT _ i).mp h')))

theorem tok_rows (d : Dev nD) (f : Vec F S16384x50 .i32) :
    (tLoc d ↦{fullShare} f : sProp 𝕄)
      = bigSep Finset.univ fun c : Fin 2 => bigSep Finset.univ fun s : Fin 16 => tLoc d ↦[(rT (pt c s)).view.set]{fullShare} f := by
  rw [← bigSep_univ_prod (fun p : Fin 2 × Fin 16 => (tLoc d ↦[(rT (pt p.1 p.2)).view.set]{fullShare} f : sProp 𝕄)),
    ← pointsTo_biUnion Finset.univ (ℓ := tLoc d) setT rT_disj, rT_cover]; try rfl

theorem rO_cover : ((Finset.univ : Finset (Fin 2 × Fin 16)).biUnion setO) = Finset.univ := by
  refine Finset.eq_univ_of_forall fun (i : S16384x64.Idx) => ?_
  have hi0 : (i 0).val < 16384 := (i 0).isLt
  obtain ⟨p, hp⟩ := wid_surj (w := (i 0).val / 512) (by omega)
  exact Finset.mem_biUnion.mpr ⟨p, Finset.mem_univ p, (mem_rO _ i).mpr hp⟩

theorem rO_disj : ∀ p ∈ (Finset.univ : Finset (Fin 2 × Fin 16)), ∀ p' ∈ (Finset.univ : Finset (Fin 2 × Fin 16)), p ≠ p' →
    Disjoint (setO p) (setO p') := fun p _ p' _ hne =>
  Finset.disjoint_left.mpr fun i h h' => hne (pt_inj (((mem_rO _ i).mp h).symm.trans ((mem_rO _ i).mp h')))

theorem out_rows (d : Dev nD) (f : Vec F S16384x64 .f32) :
    (oLoc d ↦{fullShare} f : sProp 𝕄)
      = bigSep Finset.univ fun c : Fin 2 => bigSep Finset.univ fun s : Fin 16 => oLoc d ↦[(rO (pt c s)).view.set]{fullShare} f := by
  rw [← bigSep_univ_prod (fun p : Fin 2 × Fin 16 => (oLoc d ↦[(rO (pt p.1 p.2)).view.set]{fullShare} f : sProp 𝕄)),
    ← pointsTo_biUnion Finset.univ (ℓ := oLoc d) setO rO_disj, rO_cover]; try rfl

/-- The share of the table that goes to subcore `s` of SparseCore `c`. -/
def qs (c : Fin 2) (s : Fin 16) : PosShare TreeShare := Transfers.dealOf (Transfers.dealOf fullShare Finset.univ c) Finset.univ s

theorem emb_shares (d : Dev nD) (f : Vec F S4x64 .f32) :
    (eLoc d ↦{fullShare} f : sProp 𝕄)
      = bigSep Finset.univ fun c : Fin 2 => bigSep Finset.univ fun s : Fin 16 => eLoc d ↦{qs c s} f := by
  rw [Transfers.pointsTo_deal (Finset.univ : Finset (Fin 2)) ⟨0, Finset.mem_univ _⟩ fullShare]
  refine bigSep_congr fun c _ => ?_
  rw [Transfers.pointsTo_deal (Finset.univ : Finset (Fin 16)) ⟨0, Finset.mem_univ _⟩ (Transfers.dealOf fullShare Finset.univ c)]
  rfl

/-- What subcore `s` of SparseCore `c` holds of the arrays, the output at `out`. -/
def piece (d : Dev nD) (c : Fin 2) (s : Fin 16) (out : Vec F S16384x64 .f32) : sProp 𝕄 :=
  arrs d (pt c s) (qs c s) (m (tLoc d)) (m (eLoc d)) out

/-- What the call leaves in the output array. -/
def res (d : Dev nD) : Vec F S16384x64 .f32 := spec (m (tLoc d)) (m (eLoc d))

instance piece_storable (d : Dev nD) (c : Fin 2) (s : Fin 16) (out : Vec F S16384x64 .f32) :
    BI.Storable (upEmb : UEmb _ 𝕄) (piece m d c s out) := by
  unfold piece arrs; infer_instance

theorem pieces (d : Dev nD) (out : Vec F S16384x64 .f32) :
    iprop((tLoc d ↦{fullShare} m (tLoc d)) ∗ (eLoc d ↦{fullShare} m (eLoc d)) ∗ oLoc d ↦{fullShare} out)
      = (bigSep Finset.univ fun c : Fin 2 => bigSep Finset.univ fun s : Fin 16 => piece m d c s out : sProp 𝕄) := by
  unfold piece arrs
  rw [tok_rows, emb_shares, out_rows]
  simp only [bigSep_sep']

/-- The call's payloads. -/
def P : (K (F := F)).Pay (nD := nD) (Val := Elt F) (Name := ℕ) (U := UU) where
  st := fun q d c => match q with
    | 0 => bigSep Finset.univ fun s : Fin 16 => piece m d (Fin.cast nCore_zero c) s (m (oLoc d))
  dn := fun q d c => match q with
    | 0 => bigSep Finset.univ fun s : Fin 16 => piece m d (Fin.cast nCore_zero c) s (res m d)
  go := fun q d c s => match q with | 0 => piece m d (Fin.cast nCore_zero c) (Fin.cast nSub_zero s) (m (oLoc d))
  td := fun q d c s => match q with | 0 => piece m d (Fin.cast nCore_zero c) (Fin.cast nSub_zero s) (res m d)
  x := fun _ _ => iprop(emp)

instance P_storable : (P (F := F) m).IsStorable where
  st q d c := match q with
    | 0 => (inferInstance : BI.Storable (upEmb : UEmb _ 𝕄) (bigSep Finset.univ fun s : Fin 16 => piece m d (Fin.cast nCore_zero c) s (m (oLoc d))))
  dn q d c := match q with
    | 0 => (inferInstance : BI.Storable (upEmb : UEmb _ 𝕄) (bigSep Finset.univ fun s : Fin 16 => piece m d (Fin.cast nCore_zero c) s (res m d)))
  go q d c s := match q with
    | 0 => (inferInstance : BI.Storable (upEmb : UEmb _ 𝕄) (piece m d (Fin.cast nCore_zero c) (Fin.cast nSub_zero s) (m (oLoc d))))
  td q d c s := match q with
    | 0 => (inferInstance : BI.Storable (upEmb : UEmb _ 𝕄) (piece m d (Fin.cast nCore_zero c) (Fin.cast nSub_zero s) (res m d)))

/-! ## A subcore's own scratch and semaphores -/

section Tile

variable (d : Dev nD) (L : grid0.Coords)

theorem ownSems0_V :
    (ownSems0 (tile d L) : sProp 𝕄)
      = iprop(semVal (tile d L, SemLoc.dma cc0_scoped0.sem) 0 ∗ semVal (tile d L, SemLoc.dma cc0_scoped1.sem) 0
          ∗ semVal (tile d L, SemLoc.dma cc0_scoped2.sem) 0
          ∗ bigSep ((((ownCells (tile d L)).erase (tile d L, SemLoc.dma cc0_scoped0.sem)).erase (tile d L, SemLoc.dma cc0_scoped1.sem)).erase
              (tile d L, SemLoc.dma cc0_scoped2.sem)) fun g => semVal g 0) := by
  have h01 : (SemLoc.dma cc0_scoped1.sem : SemLoc sig) ≠ SemLoc.dma cc0_scoped0.sem := by decide
  have h02 : (SemLoc.dma cc0_scoped2.sem : SemLoc sig) ≠ SemLoc.dma cc0_scoped0.sem := by decide
  have h12 : (SemLoc.dma cc0_scoped2.sem : SemLoc sig) ≠ SemLoc.dma cc0_scoped1.sem := by decide
  have own (k : SemLoc sig) (hk : k.isScoped .scVector = true) : (tile d L, k) ∈ ownCells (tile d L) := mem_ownCells.mpr ⟨rfl, hk⟩
  unfold SparseCore.Cfg.ownSems0
  rw [SparseCore.bigSep_erase' (own (SemLoc.dma cc0_scoped0.sem) (by decide)),
    SparseCore.bigSep_erase' (Finset.mem_erase.mpr ⟨fun e => h01 (Prod.mk.inj e).2, own (SemLoc.dma cc0_scoped1.sem) (by decide)⟩),
    SparseCore.bigSep_erase' (Finset.mem_erase.mpr ⟨fun e => h12 (Prod.mk.inj e).2,
      Finset.mem_erase.mpr ⟨fun e => h02 (Prod.mk.inj e).2, own (SemLoc.dma cc0_scoped2.sem) (by decide)⟩⟩)]

/-- The four scratch buffers are among the subcore's own. -/
theorem ownBufs_V :
    ∃ R : sProp 𝕄, (ownBufs (tile d L) : sProp 𝕄) = iprop((∃ f, (tile d L).loc cc0_scratch0 ↦{fullShare} f)
      ∗ (∃ f, (tile d L).loc cc0_scratch1 ↦{fullShare} f) ∗ (∃ f, (tile d L).loc cc0_scratch2 ↦{fullShare} f)
      ∗ (∃ f, (tile d L).loc cc0_scratch3 ↦{fullShare} f) ∗ R) := by
  have own (b : Ref sig .scVector) (hb : ((tile d L).2.devRef b).owner = .proc (tile d L).2) : (tile d L).2.devRef b ∈ ownRefs (τ := τ) (tile d L).2 :=
    SparseCore.Cfg.mem_ownRefs_of_owner hb
  have ne {a b : Ref sig .scVector} (h : a ≠ b) : (tile d L).2.devRef a ≠ (tile d L).2.devRef b := fun e => h (Proc.devRef_injective _ e)
  refine ⟨bigSep (((((ownRefs (τ := τ) (tile d L).2).erase ((tile d L).2.devRef cc0_scratch0)).erase ((tile d L).2.devRef cc0_scratch1)).erase
    ((tile d L).2.devRef cc0_scratch2)).erase ((tile d L).2.devRef cc0_scratch3)) fun b => iprop(∃ f, ((d, b) : Loc nD τ sig) ↦{fullShare} f), ?_⟩
  unfold SparseCore.Cfg.ownBufs
  refine (SparseCore.bigSep_erase' (own cc0_scratch0 rfl)).trans ?_
  rw [SparseCore.bigSep_erase' (Finset.mem_erase.mpr ⟨ne (show (cc0_scratch1 : Ref sig .scVector) ≠ cc0_scratch0 by decide), own cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), own cc0_scratch2 rfl⟩⟩),
    SparseCore.bigSep_erase' (Finset.mem_erase.mpr ⟨ne (show (cc0_scratch3 : Ref sig .scVector) ≠ cc0_scratch2 by decide),
      Finset.mem_erase.mpr ⟨ne (show (cc0_scratch3 : Ref sig .scVector) ≠ cc0_scratch1 by decide),
        Finset.mem_erase.mpr ⟨ne (show (cc0_scratch3 : Ref sig .scVector) ≠ cc0_scratch0 by decide), own cc0_scratch3 rfl⟩⟩⟩)]

/-- The task, from what the launch hands a subcore. -/
theorem tile_body (c : Fin 2) (s : Fin 16) (Ow : CellTallies nD τ sig (HIx 1)) (W : Waits sig (HIx 1)) (hO : ∀ g, Ow g none = 0) :
    iprop(levAts (K (F := F)).L (K (F := F)).lev ∗ emp ∗ piece m d c s (m (oLoc d))
        ∗ scopedBufs (tile d (pt c s)) ∗ scopedSems0 (tile d (pt c s)) ∗ owes (tile d (pt c s)) Ow W)
      ⊢ wp frame (wpE (defs₀ (F := F)) 𝒱₀ (tile d (pt c s)) none) Set.univ (onL (pt c s) (cc0__sc_body (F := F)))
          fun _ => iprop(piece m d c s (res m d) ∗ scopedBufs (tile d (pt c s)) ∗ scopedSems0 (tile d (pt c s))
            ∗ ∃ W', ⌜∀ p ∈ W', p ∈ W ∨ p.2 = none⌝ ∗ owes (tile d (pt c s)) Ow W') := by
  obtain ⟨R, hR⟩ := ownBufs_V (F := F) d (pt c s)
  rw [(K (F := F)).scopedBufs_V kFacts d _ _, SparseCore.Cfg.scopedSems0_V (Val := Elt F) d _ _]
  rw [hR, ownSems0_V]
  unfold piece
  iintro ⟨#Hlv, -, Ha, ⟨⟨%T, HT⟩, ⟨%E, HE⟩, ⟨%C, HC⟩, ⟨%O, HO⟩, HR⟩, ⟨Hs0, Hs1, Hs2, Hs⟩, Hw⟩
  ihave Hmw := ((K (F := F)).mayWaits_none (thr := tile d (pt c s)) hO) $$ Hlv
  iapply (wp_wand_r _ _ _)
  isplitl [Ha HT HE HC HO Hs0 Hs1 Hs2 Hw Hmw]
  · iapply (task d (pt c s) (qs c s) (m (tLoc d)) (m (eLoc d)) (m (oLoc d)) T E C O Ow W)
    isplitl [Hmw]; · iexact Hmw
    isplitl [Ha]; · iexact Ha
    isplitl [HT HE HC HO]
    · unfold pts
      isplitl [HT]; · iexact HT
      isplitl [HE]; · iexact HE
      isplitl [HC] <;> iassumption
    isplitl [Hs0]; · iexact Hs0
    isplitl [Hs1]; · iexact Hs1
    isplitl [Hs2]; · iexact Hs2
    iexact Hw
  iintro %_ ⟨Ha, ⟨%T, %E, %C, %O, Hp⟩, Hs0, Hs1, Hs2, Hw⟩
  unfold pts
  icases Hp with ⟨HT, HE, HC, HO⟩
  isplitl [Ha]; · iexact Ha
  isplitl [HT HE HC HO HR]
  · isplitl [HT]; · iexists _; iexact HT
    isplitl [HE]; · iexists _; iexact HE
    isplitl [HC]; · iexists _; iexact HC
    isplitl [HO]; · iexists _; iexact HO
    iexact HR
  isplitl [Hs0 Hs1 Hs2 Hs]
  · isplitl [Hs0]; · iexact Hs0
    isplitl [Hs1]; · iexact Hs1
    isplitl [Hs2] <;> iassumption
  iexact Hw

end Tile

/-! ## The launch theorem's obligations -/

theorem defs₀_vector (c : Fin τ.nSC) (s : Fin τ.nSub) :
    defs₀ (F := F) (.scVector c s) 0 ()
      = SparseCore.onTile hcore0 hsub0 (fun c s => onL (pt c s) (cc0__sc_body (F := F))) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d ⟨_, hc.1⟩ ⟨_, hc.2⟩ O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show (bigSep Finset.univ fun s : Fin 16 => piece m d (Fin.cast nCore_zero c) s (m (oLoc d))) ⊢ |={Set.univ}=> iprop(
      (bigSep Finset.univ fun i : Fin ((K (F := F)).nSub 0) => piece m d (Fin.cast nCore_zero c) (Fin.cast nSub_zero i) (m (oLoc d)))
      ∗ ((bigSep Finset.univ fun i : Fin ((K (F := F)).nSub 0) => piece m d (Fin.cast nCore_zero c) (Fin.cast nSub_zero i) (res m d))
          -∗ bigSep Finset.univ fun s : Fin 16 => piece m d (Fin.cast nCore_zero c) s (res m d)))
  rw [bigSep_tasks (F := F) (fun s => piece m d (Fin.cast nCore_zero c) s (m (oLoc d))),
    bigSep_tasks (F := F) (fun s => piece m d (Fin.cast nCore_zero c) s (res m d))]
  iintro H; imodintro
  isplitl [H]; · iexact H
  iintro H; iexact H

/-! ## The launch element: the handshakes' rounds, nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev args : Finset (Ref sig .tc) := {main_arg0, main_arg1, main_arg4, main_arg5}

/-- The arguments the call does not take. -/
def others (d : Dev nD) : sProp 𝕄 :=
  bigSep args fun b => (SparseCore.T d : Thread nD τ).loc b ↦{fullShare} m ((SparseCore.T d : Thread nD τ).loc b)

theorem unscopedBufs_eq (d : Dev nD) :
    (unscopedBufs d (fun b => m ((SparseCore.T d).loc b)) : sProp 𝕄)
      = iprop((tLoc d ↦{fullShare} m (tLoc d)) ∗ (eLoc d ↦{fullShare} m (eLoc d)) ∗ (oLoc d ↦{fullShare} m (oLoc d)) ∗ others m d) := by
  unfold unscopedBufs others
  rw [show (Finset.univ.filter fun b : Ref sig .tc => ¬ b.isScoped) = insert main_arg2 (insert main_arg3 (insert main_v0 args)) by decide,
    SparseCore.bigSep_insert' (by decide), SparseCore.bigSep_insert' (by decide), SparseCore.bigSep_insert' (by decide)]

/-- What @main leaves the claim: the arguments at their launch contents, the output at the run's value. -/
abbrev FIN (d : Dev nD) : sProp 𝕄 :=
  iprop(((tLoc d ↦{fullShare} m (tLoc d)) ∗ (eLoc d ↦{fullShare} m (eLoc d)) ∗ oLoc d ↦{fullShare} res m d) ∗ others m d)

theorem st0_eq (d : Dev nD) : (bigSep Finset.univ fun c : Fin ((K (F := F)).nCore 0) => (P m).st 0 d c)
    = iprop((tLoc d ↦{fullShare} m (tLoc d)) ∗ (eLoc d ↦{fullShare} m (eLoc d)) ∗ oLoc d ↦{fullShare} m (oLoc d)) :=
  (bigSep_cores (F := F) fun c => bigSep Finset.univ fun s : Fin 16 => piece m d c s (m (oLoc d))).trans (pieces m d (m (oLoc d))).symm
theorem dn0_eq (d : Dev nD) : (bigSep Finset.univ fun c : Fin ((K (F := F)).nCore 0) => (P m).dn 0 d c)
    = iprop((tLoc d ↦{fullShare} m (tLoc d)) ∗ (eLoc d ↦{fullShare} m (eLoc d)) ∗ oLoc d ↦{fullShare} res m d) :=
  (bigSep_cores (F := F) fun c => bigSep Finset.univ fun s : Fin 16 => piece m d c s (res m d)).trans (pieces m d (res m d)).symm

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ht, He, Ho, Hx⟩, Hts, -⟩, -⟩
  iapply ((K (F := F)).wp_run (D (F := F)) 𝒱 (EH := EH) (P := P m) κ d 0) $$ [Hst Ht He Ho Hx Hb Hts]
  isplitr; · iexact Hctx
  isplitl [Hst]; · iexact Hst
  isplitl [Ht He Ho]
  · rw [st0_eq]
    isplitl [Ht]; · iexact Ht
    isplitl [He] <;> iassumption
  iintro ⟨Hst, Hdn⟩
  ihave Hdn' := (Entails.of_eq (dn0_eq m d)) $$ Hdn
  imodintro
  isplitl [Hst]; · iexact Hst
  isplitr [Hb Hts]
  · isplitl [Hdn'] <;> iassumption
  isplitl [Hb] <;> iassumption

/-- What the final memory holds. -/
def fq (d : Dev nD) (s' : Phys nD τ sig (Elt F)) : Prop :=
  s'.mem.mem (tLoc d) = m (tLoc d) ∧ s'.mem.mem (eLoc d) = m (eLoc d) ∧ s'.mem.mem (oLoc d) = res m d
    ∧ ∀ b ∈ args, s'.mem.mem ((SparseCore.T d).loc b) = m ((SparseCore.T d).loc b)

theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun i => h i (Finset.mem_univ i)
  · iexact HSI

theorem agree_all (s' : Phys nD τ sig (Elt F)) (d : Dev nD) (A : Finset (Ref sig .tc)) :
    iprop(SI s' ∗ bigSep A fun b => (SparseCore.T d : Thread nD τ).loc b ↦{fullShare} m ((SparseCore.T d : Thread nD τ).loc b))
      ⊢ (⌜∀ b ∈ A, s'.mem.mem ((SparseCore.T d).loc b) = m ((SparseCore.T d).loc b)⌝ : sProp 𝕄) := by
  induction A using Finset.induction_on with
  | empty =>
    iintro -
    ipureintro
    exact fun b hb => absurd hb (Finset.notMem_empty b)
  | insert b A hb ih =>
    rw [SparseCore.bigSep_insert' hb]
    iintro ⟨HSI, Hb, HA⟩
    ihave H := (agree s' _ _) $$ [HSI Hb]
    · isplitl [HSI] <;> iassumption
    icases H with ⟨%h, HSI⟩
    ihave H := ih $$ [HSI HA]
    · isplitl [HSI] <;> iassumption
    icases H with %h'
    ipureintro
    intro x hx
    rcases Finset.mem_insert.mp hx with rfl | hx
    · exact h
    · exact h' x hx

theorem hfin (d : Dev nD) (s' : Phys nD τ sig (Elt F)) : iprop(FIN m d ∗ SI s') ⊢ (⌜fq m d s'⌝ : sProp 𝕄) := by
  unfold FIN others
  iintro ⟨⟨⟨Ht, He, Ho⟩, Hx⟩, HSI⟩
  ihave H := (agree s' _ _) $$ [HSI Ht]
  · isplitl [HSI] <;> iassumption
  icases H with ⟨%h1, HSI⟩
  ihave H := (agree s' _ _) $$ [HSI He]
  · isplitl [HSI] <;> iassumption
  icases H with ⟨%h2, HSI⟩
  ihave H := (agree s' _ _) $$ [HSI Ho]
  · isplitl [HSI] <;> iassumption
  icases H with ⟨%h3, HSI⟩
  ihave H := (agree_all m s' d args) $$ [HSI Hx]
  · isplitl [HSI] <;> iassumption
  icases H with %h4
  ipureintro; exact ⟨h1, h2, h3, h4⟩

/-! ## The program's run -/

def QC : PUnit × MemSt nD τ sig (Elt F) → Prop := fun r =>
  (∀ d : Dev nD, r.2.mem (oLoc d) = res m d
    ∧ r.2.mem ((SparseCore.T d).loc main_arg0) = m ((SparseCore.T d).loc main_arg0)
    ∧ r.2.mem ((SparseCore.T d).loc main_arg1) = m ((SparseCore.T d).loc main_arg1)
    ∧ r.2.mem (tLoc d) = m (tLoc d) ∧ r.2.mem (eLoc d) = m (eLoc d)
    ∧ r.2.mem ((SparseCore.T d).loc main_arg4) = m ((SparseCore.T d).loc main_arg4)
    ∧ r.2.mem ((SparseCore.T d).loc main_arg5) = m ((SparseCore.T d).loc main_arg5)) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) kFacts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h hz => ⟨fun d => ⟨(h d).2.2.1, (h d).2.2.2 main_arg0 (by decide), (h d).2.2.2 main_arg1 (by decide), (h d).1, (h d).2.1,
      (h d).2.2.2 main_arg4 (by decide), (h d).2.2.2 main_arg5 (by decide)⟩, hz⟩)

end Cert.Proof.KernelIdeal

end
-- ==== Proof.Mean.lean ====
/-
  The mathematics of the kernel: over the extended reals, with tokens below four and a table of reals, the entry that the
  kernel writes for a row is the mean of the fifty table rows that the row's tokens name.

  The kernel sums bits of the tokens. Of a token below four the low bit is set for one and three, the next bit for two and
  three, and both for three alone, so the three sums determine how often each table row is named (`cnt`, `sb0_eq`,
  `sb1_eq`, `sb3_eq`); the mean is then table row zero plus each count times the scaled difference of its row from row
  zero (`mean_counts`).
-/
module

public import proofs.«01_k».proof.Proof.Tile

@[expose] public section

noncomputable section

namespace Cert.Proof.KernelIdeal

open Cert.KernelIdeal Cert.KernelIdeal.Gen
open Idealize.ShloMosaic

/-! ## Counting by bits -/

/-- One if the word is `k`, else zero. -/
def hit (k : ℕ) (w : BitVec 32) : ℕ := if w.toNat = k then 1 else 0

/-- How many of the first `n` words are `k`. -/
def cnt (w : ℕ → BitVec 32) (k n : ℕ) : ℕ := ∑ l ∈ Finset.range n, hit k (w l)

theorem cnt_succ (w : ℕ → BitVec 32) (k n : ℕ) : cnt w k (n + 1) = cnt w k n + hit k (w n) := Finset.sum_range_succ _ _

theorem cnt_le (w : ℕ → BitVec 32) (k n : ℕ) : cnt w k n ≤ n := by
  induction n with
  | zero => simp [cnt]
  | succ n ih =>
    rw [cnt_succ]
    have : hit k (w n) ≤ 1 := by unfold hit; split <;> omega
    omega

/-- The low bit, the next bit and their conjunction, of a word below four. -/
theorem bits_word (w : BitVec 32) (h : w.toNat < 4) :
    IntOp.andi w 1#32 = BitVec.ofNat 32 (hit 1 w + hit 3 w)
    ∧ IntOp.shrsi .vector w 1#32 = BitVec.ofNat 32 (hit 2 w + hit 3 w)
    ∧ IntOp.andi (IntOp.andi w 1#32) (IntOp.shrsi .vector w 1#32) = BitVec.ofNat 32 (hit 3 w) := by
  have e : w = 0#32 ∨ w = 1#32 ∨ w = 2#32 ∨ w = 3#32 := by
    have : w.toNat = 0 ∨ w.toNat = 1 ∨ w.toNat = 2 ∨ w.toNat = 3 := by omega
    rcases this with e | e | e | e
    · exact .inl (BitVec.eq_of_toNat_eq e)
    · exact .inr (.inl (BitVec.eq_of_toNat_eq e))
    · exact .inr (.inr (.inl (BitVec.eq_of_toNat_eq e)))
    · exact .inr (.inr (.inr (BitVec.eq_of_toNat_eq e)))
  rcases e with rfl | rfl | rfl | rfl <;> decide

variable (T : Vec Ideal S512x50 .i32) (t : ℕ) (x : S16.Idx)

/-- The token words of lane `x`'s row. -/
abbrev lane (l : ℕ) : BitVec 32 := tk (F := Ideal) T t l x

variable (h : ∀ l, (lane T t x l).toNat < 4)

include h

theorem sb0_eq (n : ℕ) : sb0 (F := Ideal) T t n x = BitVec.ofNat 32 (cnt (lane T t x) 1 n + cnt (lane T t x) 3 n) := by
  induction n with
  | zero => rfl
  | succ n ih =>
    show sb0 (F := Ideal) T t n x + IntOp.andi (lane T t x n) 1#32 = _
    rw [ih, (bits_word _ (h n)).1, ← BitVec.ofNat_add, cnt_succ, cnt_succ]
    congr 1; omega

theorem sb1_eq (n : ℕ) : sb1 (F := Ideal) T t n x = BitVec.ofNat 32 (cnt (lane T t x) 2 n + cnt (lane T t x) 3 n) := by
  induction n with
  | zero => rfl
  | succ n ih =>
    show sb1 (F := Ideal) T t n x + IntOp.shrsi .vector (lane T t x n) 1#32 = _
    rw [ih, (bits_word _ (h n)).2.1, ← BitVec.ofNat_add, cnt_succ, cnt_succ]
    congr 1; omega

theorem sb3_eq (n : ℕ) : sb3 (F := Ideal) T t n x = BitVec.ofNat 32 (cnt (lane T t x) 3 n) := by
  induction n with
  | zero => rfl
  | succ n ih =>
    show sb3 (F := Ideal) T t n x + IntOp.andi (IntOp.andi (lane T t x n) 1#32) (IntOp.shrsi .vector (lane T t x n) 1#32) = _
    rw [ih, (bits_word _ (h n)).2.2, ← BitVec.ofNat_add, cnt_succ]

omit h in
/-- A small natural as a word, read signed. -/
theorem toInt_small (n : ℕ) (hn : n ≤ 50) : (BitVec.ofNat 32 n).toInt = n := by
  rw [BitVec.toInt_eq_toNat_cond, BitVec.toNat_ofNat, Nat.mod_eq_of_lt (by omega), if_pos (by omega)]

omit h in
theorem sub_words (a b : ℕ) : BitVec.ofNat 32 (a + b) - BitVec.ofNat 32 b = BitVec.ofNat 32 a := by
  rw [BitVec.ofNat_add, BitVec.add_sub_cancel]

theorem c1v_eq : c1v (F := Ideal) T t x = ((cnt (lane T t x) 1 50 : ℝ) : EReal) := by
  show (((sb0 (F := Ideal) T t 50 x - sb3 (F := Ideal) T t 50 x).toInt : ℝ) : EReal) = _
  rw [sb0_eq T t x h, sb3_eq T t x h, sub_words, toInt_small _ (cnt_le _ _ _)]; norm_cast

theorem c2v_eq : c2v (F := Ideal) T t x = ((cnt (lane T t x) 2 50 : ℝ) : EReal) := by
  show (((sb1 (F := Ideal) T t 50 x - sb3 (F := Ideal) T t 50 x).toInt : ℝ) : EReal) = _
  rw [sb1_eq T t x h, sb3_eq T t x h, sub_words, toInt_small _ (cnt_le _ _ _)]; norm_cast

theorem c3v_eq : c3v (F := Ideal) T t x = ((cnt (lane T t x) 3 50 : ℝ) : EReal) := by
  show (((sb3 (F := Ideal) T t 50 x).toInt : ℝ) : EReal) = _
  rw [sb3_eq T t x h, toInt_small _ (cnt_le _ _ _)]; norm_cast

omit h

/-! ## The mean by counts -/

/-- The sum of `n` looked-up values, by the number of times each is named. -/
theorem sum_counts (w : ℕ → BitVec 32) (h : ∀ l, (w l).toNat < 4) (f : ℕ → ℝ) (n : ℕ) :
    ∑ l ∈ Finset.range n, f (w l).toNat
      = n * f 0 + cnt w 1 n * (f 1 - f 0) + cnt w 2 n * (f 2 - f 0) + cnt w 3 n * (f 3 - f 0) := by
  induction n with
  | zero => simp [cnt]
  | succ n ih =>
    have e : f (w n).toNat = f 0 + hit 1 (w n) * (f 1 - f 0) + hit 2 (w n) * (f 2 - f 0) + hit 3 (w n) * (f 3 - f 0) := by
      have h4 := h n
      unfold hit
      generalize (w n).toNat = k at h4
      interval_cases k <;> simp
    rw [Finset.sum_range_succ, ih, e, cnt_succ, cnt_succ, cnt_succ]
    push_cast; ring

theorem mean_counts (w : ℕ → BitVec 32) (h : ∀ l, (w l).toNat < 4) (f : ℕ → ℝ) :
    f 0 + cnt w 1 50 * ((f 1 - f 0) * 50⁻¹) + cnt w 2 50 * ((f 2 - f 0) * 50⁻¹) + cnt w 3 50 * ((f 3 - f 0) * 50⁻¹)
      = (∑ l ∈ Finset.range 50, f (w l).toNat) * (1 / 50) := by
  rw [sum_counts w h]; push_cast; ring

/-! ## The kernel's entries -/

theorem invL_eq : invL (F := Ideal) = ((50⁻¹ : ℝ) : EReal) :=
  IdealRules.named_const.ideal_named_scalar _ _ _ _ rfl

/-- A loaded table row without its unit axis. -/
theorem row_apply (E : Vec Ideal S4x64 .f32) (k j n : ℕ) (hn : n < 16) :
    shapeCast S16 (er (F := Ideal) E k j) shapeCasts_S1x16_S16 (ix16 n) = E (ixE k (16 * j + n)) := by
  have e : shapeCast S16 (er (F := Ideal) E k j) shapeCasts_S1x16_S16 (ix16 n)
      = er (F := Ideal) E k j (Fin.cons ⟨0, Nat.one_pos⟩ (ix16 n)) := shapeCast_dropUnit_apply _ _ _ _
  rw [e]
  show E (ixE k (16 * j + n % 16)) = _
  rw [Nat.mod_eq_of_lt hn]

/-- An entry of a trip's output row: the mean, over the row's fifty tokens, of the table entries they name. -/
theorem ov_eq (r : S4x64.Idx → ℝ) (e : ℕ) (he : e < 16) (h : ∀ l, (lane T t (ix16 e) l).toNat < 4) (j n : ℕ) (hn : n < 16) :
    ov (F := Ideal) T (fun i => ((r i : ℝ) : EReal)) t e j (ix16 n)
      = (((∑ l ∈ Finset.range 50, r (ixE (lane T t (ix16 e) l).toNat (16 * j + n))) * (1 / 50) : ℝ) : EReal) := by
  rw [← mean_counts (lane T t (ix16 e)) h (fun k => r (ixE k (16 * j + n)))]
  have k1 : cfin (F := Ideal) T t (ixC e) = ((cnt (lane T t (ix16 e)) 1 50 : ℝ) : EReal) := by
    rw [← c1v_eq T t _ h]
    have v : ((ixC e) 0).val = e := Nat.mod_eq_of_lt (by omega)
    unfold cfin; rw [v, if_pos he]
  have k2 : cfin (F := Ideal) T t (ixC (16 + e)) = ((cnt (lane T t (ix16 e)) 2 50 : ℝ) : EReal) := by
    rw [← c2v_eq T t _ h]
    have v : ((ixC (16 + e)) 0).val = 16 + e := Nat.mod_eq_of_lt (by omega)
    unfold cfin; rw [v, if_neg (by omega), if_pos (by omega), Nat.add_sub_cancel_left]
  have k3 : cfin (F := Ideal) T t (ixC (32 + e)) = ((cnt (lane T t (ix16 e)) 3 50 : ℝ) : EReal) := by
    rw [← c3v_eq T t _ h]
    have v : ((ixC (32 + e)) 0).val = 32 + e := Nat.mod_eq_of_lt (by omega)
    unfold cfin; rw [v, if_neg (by omega), if_neg (by omega), Nat.add_sub_cancel_left]
  have d : ∀ k, dk (F := Ideal) (fun i => ((r i : ℝ) : EReal)) k j (ix16 n)
      = (((r (ixE k (16 * j + n)) - r (ixE 0 (16 * j + n))) * 50⁻¹ : ℝ) : EReal) := by
    intro k
    show (shapeCast S16 (er (F := Ideal) _ k j) shapeCasts_S1x16_S16 (ix16 n)
      - shapeCast S16 (er (F := Ideal) _ 0 j) shapeCasts_S1x16_S16 (ix16 n)) * invL (F := Ideal) = _
    rw [row_apply _ _ _ _ hn, row_apply _ _ _ _ hn, invL_eq, ← EReal.coe_sub, ← EReal.coe_mul]
  show shapeCast S16 (er (F := Ideal) _ 0 j) shapeCasts_S1x16_S16 (ix16 n)
    + cfin (F := Ideal) T t (ixC e) * dk (F := Ideal) _ 1 j (ix16 n)
    + cfin (F := Ideal) T t (ixC (16 + e)) * dk (F := Ideal) _ 2 j (ix16 n)
    + cfin (F := Ideal) T t (ixC (32 + e)) * dk (F := Ideal) _ 3 j (ix16 n) = _
  rw [row_apply _ _ _ _ hn, k1, k2, k3, d, d, d]
  simp only [← EReal.coe_mul, ← EReal.coe_add]

/-- Each entry of the kernel's result: the mean, over the row's fifty tokens, of the table entries they name. -/
theorem spec_eq (tok : Vec Ideal S16384x50 .i32) (ht : ∀ i, (tok i : BitVec 32).toNat < 4) (r : S4x64.Idx → ℝ) (i : S16384x64.Idx) :
    spec (F := Ideal) tok (fun i => ((r i : ℝ) : EReal)) i
      = (((∑ l ∈ Finset.range 50, r (ixE (tok (ixA (i 0).val l) : BitVec 32).toNat (i 1).val)) * (1 / 50) : ℝ) : EReal) := by
  have h0 : (i 0).val < 16384 := (i 0).isLt
  have h1 : (i 1).val < 64 := (i 1).isLt
  have w : ∀ l < 50, lane (blockT (F := Ideal) tok ((i 0).val / 512)) ((i 0).val % 512 / 16) (ix16 ((i 0).val % 16)) l
      = tok (ixA (i 0).val l) := by
    intro l hl
    show tok (ixA (512 * ((i 0).val / 512) + (16 * ((i 0).val % 512 / 16) + (i 0).val % 16 % 16) % 512) (l % 50)) = _
    rw [Nat.mod_eq_of_lt hl]
    congr 2; omega
  unfold spec
  rw [ov_eq (blockT (F := Ideal) tok ((i 0).val / 512)) ((i 0).val % 512 / 16) r ((i 0).val % 16) (Nat.mod_lt _ (by decide))
    (fun l => ht (ixA _ _)) ((i 1).val / 16) ((i 1).val % 16) (Nat.mod_lt _ (by decide)), Nat.div_add_mod]
  congr 2
  refine Finset.sum_congr rfl fun l hl => ?_
  rw [w l (Finset.mem_range.1 hl)]

end Cert.Proof.KernelIdeal

end
-- ==== Proof.Consts.lean ====
/-
  The float constants of the reference and of the precondition, as the extended reals their patterns denote.
-/
module

public import Idealize.ShloMosaic.PureOps.Ideal

@[expose] public section

noncomputable section

namespace Cert.Proof.Consts

open Idealize.ShloMosaic

/-- The reference's divisor is fifty. -/
theorem fifty : Ideal.ofBits .f32 0x42480000#32 = ((50 : ℝ) : EReal) := by
  simp [Ideal.ofBits, Ideal.ieee, -EReal.coe_mul]; norm_num

/-- The reference's sum begins at zero. -/
theorem zero : Ideal.ofBits .f32 0x00000000#32 = 0 := by
  simp [Ideal.ofBits, Ideal.ieee]

/-- The precondition compares with infinity. -/
theorem inf : Ideal.ofBits .f32 0x7F800000#32 = ⊤ := by
  simp [Ideal.ofBits, Ideal.ieee]

end Cert.Proof.Consts

end
-- ==== Proof.Ref.lean ====
/-
  What the reference computes: over the extended reals, with tokens below four, the sum of the fifty table rows that a row's
  tokens name, divided by fifty; and what the precondition says of the tokens and the table.
-/
module

public import proofs.«01_k».proof.Defs
public import proofs.«01_k».proof.Proof.Consts
public import proofs.«01_k».proof.Proof.Gen.ReferenceIdeal.Run
public import proofs.«01_k».proof.Proof.Gen.Pre_in_range
public import Idealize.ShloMosaic.Lib.ReduceAll
public import Idealize.ShloMosaic.Lib.Pointwise.Reduce
public import Idealize.ShloMosaic.Lib.ValueIdx

@[expose] public section

noncomputable section

open Idealize.ShloMosaic

/-! ## The precondition -/

namespace Cert.Proof.InRange

open Cert.Pre_in_range Cert.Pre_in_range.Gen

theorem ofBool_one (p : Bool) : BitVec.ofBool p = 1#1 ↔ p = true := by cases p <;> decide

theorem and_one (x y : BitVec 1) : IntOp.andi x y = 1#1 ↔ x = 1#1 ∧ y = 1#1 := by revert x y; decide

/-- A word that is, read signed, from zero to three. -/
theorem word_range (v : BitVec 32) (h0 : IntOp.cmpi .sge v 0#32 = 1#1) (h1 : IntOp.cmpi .slt v 4#32 = 1#1) : v.toNat < 4 := by
  simp only [IntOp.cmpi, ofBool_one, BitVec.sle_eq_decide, BitVec.slt_eq_decide, decide_eq_true_eq,
    BitVec.toInt_eq_toNat_cond, BitVec.toNat_ofNat, Nat.reducePow, Nat.reduceMod] at h0 h1
  omega

theorem real_of_abs_lt (x : EReal) (h : Ideal.cmp .olt (FloatOps.absf (F := Ideal) (φ := .f32) x) ⊤ = 1#1) : ∃ r : ℝ, x = (r : EReal) := by
  have h' : max x (-x) < ⊤ := of_decide_eq_true ((ofBool_one _).1 h)
  induction x using EReal.rec with
  | bot => exact absurd h' (by simp)
  | coe r => exact ⟨r, rfl⟩
  | top => exact absurd h' (by simp)

/-- Where the precondition holds, the tokens are below four and the table's entries are reals. -/
theorem split (a0 a1 : FVec Ideal S16384 .f32) (tok : IVec S16384x50 32) (emb : FVec Ideal S4x64 .f32) (a4 : FVec Ideal S64x2 .f32)
    (a5 : FVec Ideal S64 .f32) (h : fn (F := Ideal) a0 a1 tok emb a4 a5 = fun _ => 1#1) :
    (∀ i, (tok i).toNat < 4) ∧ ∃ r : S4x64.Idx → ℝ, emb = fun i => ((r i : ℝ) : EReal) := by
  have e := congrFun h (Shape.Idx.first Facts.h_S_)
  obtain ⟨e1, e2⟩ := (and_one _ _).1 e
  have : Subsingleton S_.Idx := ⟨fun a b => funext fun k => k.elim0⟩
  refine ⟨fun i => ?_, ?_⟩
  · obtain ⟨q0, q1⟩ := (and_one _ _).1 (Host.reduce_andi_all _ _ _ _ _ e1 i)
    exact word_range _ q0 q1
  · have q : ∀ i, ∃ r : ℝ, emb i = (r : EReal) := fun i => by
      have q := Host.reduce_andi_all _ _ _ _ _ e2 i
      have q' : Ideal.cmp .olt (FloatOps.absf (F := Ideal) (φ := .f32) (emb i)) (Ideal.ofBits .f32 0x7F800000#32) = 1#1 := q
      rw [Consts.inf] at q'
      exact real_of_abs_lt _ q'
    choose r hr using q
    exact ⟨r, funext hr⟩

end Cert.Proof.InRange

/-! ## The reference -/

namespace Cert.Proof.Ref

open Cert.ReferenceIdeal Cert.ReferenceIdeal.Gen

/-- Rows of the table, taken at `ix`. -/
theorem gather_apply {α : Type} (x : S4x64.Idx → α) (idx : IVec S16384x50x1 32) (y : S16384x50x64.Idx) (p : S4x64.Idx)
    (s : S16384x50x1.Idx) (hs0 : (s 0).val = (y 0).val) (hs1 : (s 1).val = (y 1).val)
    (hp0 : (p 0).val = (idx s).toNat) (hp1 : (p 1).val = (y 2).val) (hi : (idx s).toNat < 4) :
    Host.gather gather_S4x64_S16384x50x1_S16384x50x64_2_0_n_n_0_2_164 x idx y = x p := by
  unfold Host.gather
  refine congrArg x (funext fun a => Fin.ext ?_)
  set d := gather_S4x64_S16384x50x1_S16384x50x64_2_0_n_n_0_2_164 with hd
  show d.start y idx a + d.batchCoord y a + d.offCoord y a = (p a).val
  rw [d.batchCoord_eq_zero _ _ (by rw [hd]; exact List.not_mem_nil), Nat.add_zero]
  have a01 : a = 0 ∨ a = 1 := by
    match a with
    | ⟨0, _⟩ => exact .inl rfl
    | ⟨1, _⟩ => exact .inr rfl
  rcases a01 with rfl | rfl
  · have hm : (0 : Fin 2) ∈ d.startIndexMap := List.mem_singleton.mpr rfl
    rw [d.offCoord_eq_zero _ _ (fun h => ((d.mem_sKept _).mp h).1 (List.mem_singleton.mpr rfl)), Nat.add_zero, hp0]
    unfold GatherDims.start
    rw [dif_pos hm]
    have hsi : d.siIdx y ⟨List.idxOf (0 : Fin 2) d.startIndexMap, List.idxOf_lt_length_iff.2 hm⟩ = s := by
      funext b
      refine Fin.ext ?_
      match b with
      | ⟨0, _⟩ => exact hs0.symm
      | ⟨1, _⟩ => exact hs1.symm
      | ⟨2, _⟩ =>
        have : (s 2).val < 1 := (s 2).isLt
        show 0 = (s 2).val
        omega
    rw [hsi, BitVec.toInt_eq_toNat_cond, if_pos (by omega)]
    show min (idx s).toNat (4 - 1) = _
    omega
  · have hm : (1 : Fin 2) ∉ d.startIndexMap := fun h => absurd (List.mem_singleton.1 h) (by decide)
    unfold GatherDims.start
    rw [dif_neg hm, Nat.zero_add, hp1]
    have hk : (1 : Fin 2) ∈ d.sKept := (d.mem_sKept _).2 ⟨fun h => absurd (List.mem_singleton.1 h) (by decide), List.not_mem_nil⟩
    unfold GatherDims.offCoord
    rw [dif_pos hk]
    rfl

def ixA (r c : ℕ) : S16384x50.Idx
  | 0 => ⟨r % 16384, Nat.mod_lt _ (by decide)⟩
  | 1 => ⟨c % 50, Nat.mod_lt _ (by decide)⟩
def ixE (r c : ℕ) : S4x64.Idx
  | 0 => ⟨r % 4, Nat.mod_lt _ (by decide)⟩
  | 1 => ⟨c % 64, Nat.mod_lt _ (by decide)⟩

variable (tok : IVec S16384x50 32) (emb : FVec Ideal S4x64 .f32)

/-- The tokens with negative ones moved up by four, as indices. -/
def idx : IVec S16384x50x1 32 :=
  broadcastInDim S16384x50x1 ![0, 1] bcast_S16384x50_S16384x50x1_0_1
    (select (cmpi .slt tok (broadcastInDim S16384x50 ![] bcast_S_S16384x50 (constantI S_ 32 0#32)))
      (addi tok (broadcastInDim S16384x50 ![] bcast_S_S16384x50 (constantI S_ 32 4#32))) tok)

/-- Whether each index names a table row. -/
def ok : IVec S16384x50 1 :=
  Host.reduce IntOp.andi
    (andi (cmpi .sge (idx tok) (broadcastInDim S16384x50x1 ![] bcast_S_S16384x50x1 (constantI S_ 32 0#32)))
      (cmpi .sle (idx tok) (broadcastInDim S16384x50x1 ![0, 1, 2] bcast_S1x1x1_S16384x50x1_0_1_2
        (broadcastInDim S1x1x1 ![2] bcast_S1_S1x1x1_2 (constantI S1 32 3#32)))))
    (constantI S_ 1 1#1) reducesTo_S16384x50x1_S16384x50_d2 h_S_

/-- The rows looked up. -/
def rows : FVec Ideal S16384x50x64 .f32 :=
  select (broadcastInDim S16384x50x64 ![0, 1] bcast_S16384x50_S16384x50x64_0_1 (ok tok))
    (Host.gather gather_S4x64_S16384x50x1_S16384x50x64_2_0_n_n_0_2_164 emb (idx tok))
    (broadcastInDim S16384x50x64 ![] bcast_S_S16384x50x64 (constant (F := Ideal) S_ .f32 0x7FC00000#32))

/-- The reference's result. -/
def out : FVec Ideal S16384x64 .f32 :=
  Host.divf (Host.reduceAdd (rows tok emb) (constant (F := Ideal) S_ .f32 0x00000000#32) reducesTo_S16384x50x64_S16384x64_d1 h_S_)
    (broadcastInDim S16384x64 ![] bcast_S_S16384x64 (constant (F := Ideal) S_ .f32 0x42480000#32))

/-- A word below four: not negative, at least zero, at most three. -/
theorem word_cmps (v : BitVec 32) (h : v.toNat < 4) :
    IntOp.cmpi .slt v 0#32 = 0#1 ∧ IntOp.andi (IntOp.cmpi .sge v 0#32) (IntOp.cmpi .sle v 3#32) = 1#1 := by
  have : v = BitVec.ofNat 32 v.toNat := (BitVec.ofNat_toNat _ v).symm ▸ (by simp)
  rw [this]
  generalize v.toNat = k at h
  interval_cases k <;> decide

theorem select_one {s : Shape} {α : Type} (c : IVec s 1) (a b : s.Idx → α) (i : s.Idx) (h : c i = 1#1) : select c a b i = a i := by
  show Scalar.select (c i) (a i) (b i) = a i
  rw [h]; rfl
theorem select_zero {s : Shape} {α : Type} (c : IVec s 1) (a b : s.Idx → α) (i : s.Idx) (h : c i = 0#1) : select c a b i = b i := by
  show Scalar.select (c i) (a i) (b i) = b i
  rw [h]; rfl

variable (ht : ∀ i, (tok i).toNat < 4)
include ht

theorem idx_apply (s : S16384x50x1.Idx) : idx tok s = tok (ixA (s 0).val (s 1).val) := by
  have h0 : (s 0).val < 16384 := (s 0).isLt
  have h1 : (s 1).val < 50 := (s 1).isLt
  refine (select_zero _ _ _ _ (word_cmps _ (ht _)).1).trans ?_
  refine congrArg tok (funext fun a => Fin.ext ?_)
  match a with
  | ⟨0, _⟩ => exact (Nat.mod_eq_of_lt h0).symm
  | ⟨1, _⟩ => exact (Nat.mod_eq_of_lt h1).symm

theorem ok_apply (i : S16384x50.Idx) : ok tok i = 1#1 := by
  unfold ok
  refine Host.reduce_andi_one _ _ _ _ _ rfl fun s => ?_
  show IntOp.andi (IntOp.cmpi .sge (idx tok s) 0#32) (IntOp.cmpi .sle (idx tok s) 3#32) = 1#1
  rw [idx_apply tok ht]
  exact (word_cmps _ (ht _)).2

theorem rows_apply (y : S16384x50x64.Idx) :
    rows tok emb y = emb (ixE (tok (ixA (y 0).val (y 1).val)).toNat (y 2).val) := by
  have h0 : (y 0).val < 16384 := (y 0).isLt
  have h1 : (y 1).val < 50 := (y 1).isLt
  have h2 : (y 2).val < 64 := (y 2).isLt
  have ho : broadcastInDim S16384x50x64 ![0, 1] bcast_S16384x50_S16384x50x64_0_1 (ok tok) y = 1#1 := ok_apply tok ht _
  let s : S16384x50x1.Idx := fun
    | 0 => ⟨(y 0).val, h0⟩
    | 1 => ⟨(y 1).val, h1⟩
    | 2 => ⟨0, Nat.one_pos⟩
  have hs : idx tok s = tok (ixA (y 0).val (y 1).val) := idx_apply tok ht s
  have hl := ht (ixA (y 0).val (y 1).val)
  refine (select_one _ _ _ y ho).trans ?_
  exact gather_apply emb (idx tok) y _ s rfl rfl (by rw [hs]; exact Nat.mod_eq_of_lt hl) (Nat.mod_eq_of_lt h2) (by rw [hs]; exact hl)

/-- Each entry of the reference's result. -/
theorem out_apply (r : S4x64.Idx → ℝ) (hr : emb = fun i => ((r i : ℝ) : EReal)) (i : S16384x64.Idx) :
    out tok emb i = (((∑ l ∈ Finset.range 50, r (ixE (tok (ixA (i 0).val l)).toNat (i 1).val)) * (1 / 50) : ℝ) : EReal) := by
  show Ideal.div (Ideal.hostReduceAdd reducesTo_S16384x50x64_S16384x64_d1 (rows tok emb) (Ideal.ofBits .f32 0x00000000#32) i)
    (Ideal.ofBits .f32 0x42480000#32) = _
  rw [Ideal.hostReduceAdd_r3_a1, Consts.zero, Consts.fifty, zero_add, Ideal.div_coe (by norm_num), EReal.coe_mul]
  refine congrArg (· * ((1 / 50 : ℝ) : EReal)) ?_
  rw [Finset.sum_range fun l => r (ixE (tok (ixA (i 0).val l)).toNat (i 1).val)]
  have e : ∀ (f : Fin 50 → ℝ), ((∑ k, f k : ℝ) : EReal) = ∑ k, ((f k : ℝ) : EReal) := fun f => by
    induction (Finset.univ : Finset (Fin 50)) using Finset.cons_induction with
    | empty => simp
    | cons a s ha ih => rw [Finset.sum_cons, Finset.sum_cons, EReal.coe_add, ih]
  rw [e]
  refine Finset.sum_congr rfl fun k _ => ?_
  rw [rows_apply tok emb ht, hr]
  rfl

end Cert.Proof.Ref

end
-- ==== Proof.lean ====
/-
  The proof of the claims about the kernel: it terminates without fault, leaves its arguments unchanged and every semaphore
  counter at zero, over machine floats and over the extended reals; so does the reference; the named constant is one
  fiftieth; and over the extended reals, with tokens below four and a finite table, kernel and reference leave one result.
-/
module

public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Launch
public import proofs.«01_k».proof.Proof.LaunchK
public import proofs.«01_k».proof.Proof.Mean
public import proofs.«01_k».proof.Proof.Ref
public import Idealize.ShloMosaic.Lib.Claim
public import Idealize.ShloMosaic.Adequacy
public import Idealize.ShloMosaic.Init

@[expose] public section

noncomputable section

namespace Cert.Proof

open Idealize.ShloMosaic Idealize.SL.Sem

theorem frame_p : Cert.quiescent_Kernel := fun m ρ _ =>
  (θ_run Cert.Kernel.defs _ _).mono (fun _ h => ⟨fun c => (h.1 c).2, h.2⟩) (Cert.Proof.Kernel.run_main (F := Bits) m ρ)

theorem frame_pi : Cert.quiescent_KernelIdeal := fun m ρ _ =>
  (θ_run Cert.KernelIdeal.defs _ _).mono (fun _ h => ⟨fun c => (h.1 c).2, h.2⟩) (Cert.Proof.KernelIdeal.run_main (F := Ideal) m ρ)

theorem frame_pi_pre : Cert.quiescent_KernelIdeal_pre_in_range := fun m ρ _ => frame_pi m ρ trivial

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_in_range := fun m ρ _ => frame_ri m ρ trivial

/-- The named constant is one fiftieth. -/
theorem preserves : Cert.preserves_Kernel_KernelIdeal :=
  IdealRules.named_const.statement Cert.KernelIdeal.κ "inv_l" .f32 0x3CA3D70A#32 ((50⁻¹ : ℝ) : EReal) rfl

/-- Where the tokens are below four and the table finite, the kernel's result is the reference's. -/
theorem out_eq (tok : IVec Cert.KernelIdeal.S16384x50 32) (emb : FVec Ideal Cert.KernelIdeal.S4x64 .f32)
    (ht : ∀ i, (tok i).toNat < 4) (hE : ∃ r : Cert.KernelIdeal.S4x64.Idx → ℝ, emb = fun i => ((r i : ℝ) : EReal)) :
    Ref.out tok emb = Cert.Proof.KernelIdeal.spec (F := Ideal) tok emb := by
  obtain ⟨r, hr⟩ := hE
  funext i
  rw [Ref.out_apply tok emb ht r hr i, hr]
  exact (Cert.Proof.KernelIdeal.spec_eq tok ht r i).symm

theorem algebraic : Cert.algebraic_KernelIdeal_ReferenceIdeal_pre_in_range := by
  intro m ρ m' ρ' hpre hagree
  refine ⟨fun c => Cert.Proof.KernelIdeal.res m c, ?_, ?_⟩
  · exact (θ_run Cert.KernelIdeal.defs _ _).mono (fun _ h c => h.1 c) (Cert.Proof.KernelIdeal.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨ht, hE⟩ := InRange.split _ _ _ _ _ _ (hpre c)
    obtain ⟨-, -, h2, h3, -, -⟩ := hagree c
    rw [h2, h3]
    exact out_eq _ _ ht hE

theorem claim : Cert.Claim := ⟨Cert.Kernel.Gen.facts, Cert.KernelIdeal.Gen.facts, Cert.ReferenceIdeal.Gen.facts, Cert.Pre_in_range.Gen.facts,
  frame_p, frame_pi, frame_pi_pre, frame_ri, frame_ri_pre, preserves, algebraic⟩

end Cert.Proof

end
